-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_rows_unclipped [hKernelIdeal : Cert.KernelIdeal.Facts] [hReferenceIdeal : Cert.ReferenceIdeal.Facts] [hOn_rows_unclipped : Cert.On_rows_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 128]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨2, ![10000, 128]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨2, ![10000, 2]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_0) i = v2 c i)
          ∧ (∀ i : (⟨2, ![10000, 2]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v1_1) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 128]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1) i = v0 c i)
          ∧ (∀ i : (⟨2, ![10000, 128]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v4) i = v1 c i)
          ∧ (∀ i : (⟨2, ![10000, 2]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v62) i = v2 c i)
          ∧ (∀ i : (⟨2, ![10000, 2]⟩ : Shape).Idx, (Cert.On_rows_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v79) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_rows_unclipped : Cert.On_rows_unclipped.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_unclipped (hKernelIdeal := hKernelIdeal) (hReferenceIdeal := hReferenceIdeal) (hOn_rows_unclipped := hOn_rows_unclipped)
-- ==== On_rows_unclipped.lean ====
abbrev S10000x128 : Shape := ⟨2, ![10000, 128]⟩
abbrev S10000x10000 : Shape := ⟨2, ![10000, 10000]⟩
abbrev S128x128 : Shape := ⟨2, ![128, 128]⟩
abbrev S1x128x128 : Shape := ⟨3, ![1, 128, 128]⟩
abbrev S1 : Shape := ⟨1, ![1]⟩
abbrev S_ : Shape := ⟨0, ![]⟩
abbrev S10000 : Shape := ⟨1, ![10000]⟩
abbrev S10000x1 : Shape := ⟨2, ![10000, 1]⟩
abbrev S10000x2 : Shape := ⟨2, ![10000, 2]⟩

class Facts : Prop where
  bcast_S_S10000x128 : S_.BroadcastsInDim S10000x128 (![] : Fin 0 → Fin S10000x128.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  reducesTo_S10000x128_S10000_d1 : S10000x128.ReducesTo [1] S10000
  bcast_S_S10000x1 : S_.BroadcastsInDim S10000x1 (![] : Fin 0 → Fin S10000x1.rank)
  bcast_S10000x1_S10000x2_0_1 : S10000x1.BroadcastsInDim S10000x2 (![0, 1] : Fin 2 → Fin S10000x2.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_part3 {F : FTy → Type} [FloatOps F] (main_v0 : IVec S10000x128 1) (main_v29 : IVec S10000x2 1) (main_v48 : IVec S10000x1 1) (main_v50 : IVec S10000x1 1) (main_v52 : IVec S10000x1 1) (main_v54 : IVec S10000x1 1) : IVec S10000x128 1 × IVec S10000x128 1 × IVec S10000x2 1 × IVec S10000x2 1 :=
  let main_v55 : IVec S10000x1 1 := andi main_v52 main_v54
  let main_v56 : IVec S10000x1 1 := ori main_v50 main_v55
  let main_v57 : IVec S10000x1 1 := andi main_v48 main_v56
  let main_v58 : IVec S10000x2 1 := broadcastInDim S10000x2 ![0, 1] bcast_S10000x1_S10000x2_0_1 main_v57
  (main_v0, main_v0, main_v29, main_v58)

def fn_part2 {F : FTy → Type} [FloatOps F] (main_v0 : IVec S10000x128 1) (main_v29 : IVec S10000x2 1) (main_v34 : FVec F S10000x128 .f32) (main_v36 : FVec F S10000x1 .f32) : IVec S10000x128 1 × IVec S10000x128 1 × IVec S10000x2 1 × IVec S10000x2 1 :=
  let main_v37 : FVec F S10000x128 .f32 := broadcastInDim S10000x128 ![0, 1] bcast_S10000x1_S10000x128_0_1 main_v36
  let main_v38 : FVec F S10000x128 .f32 := Host.divf main_v34 main_v37
  let main_v39 : FVec F S10000x128 .f32 := mulf main_v34 main_v34
  let main_cst_9 : FVec F S_ .f32 := constant S_ .f32 0x00000000#32
  let main_v40 : FVec F S10000 .f32 := (fun x v => Host.reduceAdd x v reducesTo_S10000x128_S10000_d1 h_S_) main_v39 main_cst_9
  let main_v41 : FVec F S10000x1 .f32 := broadcastInDim S10000x1 ![0] bcast_S10000_S10000x1_0 main_v40
  let main_v42 : FVec F S10000x1 .f32 := Host.sqrt main_v41
  let main_v43 : FVec F S10000x128 .f32 := mulf main_v38 main_v38
  let main_cst_10 : FVec F S_ .f32 := constant S_ .f32 0x00000000#32
  let main_v44 : FVec F S10000 .f32 := (fun x v => Host.reduceAdd x v reducesTo_S10000x128_S10000_d1 h_S_) main_v43 main_cst_10
  let main_v45 : FVec F S10000x1 .f32 := broadcastInDim S10000x1 ![0] bcast_S10000_S10000x1_0 main_v44
  let main_v46 : FVec F S10000x1 .f32 := Host.sqrt main_v45
  let main_cst_11 : FVec F S_ .f32 := constant S_ .f32 0x00000000#32
  let main_v47 : FVec F S10000x1 .f32 := broadcastInDim S10000x1 ![] bcast_S_S10000x1 main_cst_11
  let main_v48 : IVec S10000x1 1 := cmpf .ogt main_v36 main_v47
  let main_cst_12 : FVec F S_ .f32 := constant S_ .f32 0x00000000#32
  let main_v49 : FVec F S10000x1 .f32 := broadcastInDim S10000x1 ![] bcast_S_S10000x1 main_cst_12
  let main_v50 : IVec S10000x1 1 := cmpf .oeq main_v42 main_v49
  let main_cst_13 : FVec F S_ .f32 := constant S_ .f32 0x2B8CBCCC#32
  let main_v51 : FVec F S10000x1 .f32 := broadcastInDim S10000x1 ![] bcast_S_S10000x1 main_cst_13
  let main_v52 : IVec S10000x1 1 := cmpf .oge main_v42 main_v51
  let main_cst_14 : FVec F S_ .f32 := constant S_ .f32 0x2B8CBCCC#32
  let main_v53 : FVec F S10000x1 .f32 := broadcastInDim S10000x1 ![] bcast_S_S10000x1 main_cst_14
  let main_v54 : IVec S10000x1 1 := cmpf .oge main_v46 main_v53
  fn_part3 (F := F) main_v0 main_v29 main_v48 main_v50 main_v52 main_v54

def fn_part1 {F : FTy → Type} [FloatOps F] (main_arg1 : FVec F S10000x128 .f32) (main_arg2 : FVec F S10000x10000 .f32) (main_arg3 : FVec F S128x128 .f32) (main_v0 : IVec S10000x128 1) (main_v7 : FVec F S10000x1 .f32) (main_v13 : FVec F S10000x1 .f32) (main_v17 : FVec F S10000x1 .f32) (main_cst_3 : FVec F S_ .f32) : IVec S10000x128 1 × IVec S10000x128 1 × IVec S10000x2 1 × IVec S10000x2 1 :=
  let main_v18 : FVec F S10000x1 .f32 := broadcastInDim S10000x1 ![] bcast_S_S10000x1 main_cst_3
  let main_v19 : IVec S10000x1 1 := cmpf .ogt main_v7 main_v18
  let main_cst_4 : FVec F S_ .f32 := constant S_ .f32 0x00000000#32
  let main_v20 : FVec F S10000x1 .f32 := broadcastInDim S10000x1 ![] bcast_S_S10000x1 main_cst_4
  let main_v21 : IVec S10000x1 1 := cmpf .oeq main_v13 main_v20
  let main_cst_5 : FVec F S_ .f32 := constant S_ .f32 0x2B8CBCCC#32
  let main_v22 : FVec F S10000x1 .f32 := broadcastInDim S10000x1 ![] bcast_S_S10000x1 main_cst_5
  let main_v23 : IVec S10000x1 1 := cmpf .oge main_v13 main_v22
  let main_cst_6 : FVec F S_ .f32 := constant S_ .f32 0x2B8CBCCC#32
  let main_v24 : FVec F S10000x1 .f32 := broadcastInDim S10000x1 ![] bcast_S_S10000x1 main_cst_6
  let main_v25 : IVec S10000x1 1 := cmpf .oge main_v17 main_v24
  let main_v26 : IVec S10000x1 1 := andi main_v23 main_v25
  let main_v27 : IVec S10000x1 1 := ori main_v21 main_v26
  let main_v28 : IVec S10000x1 1 := andi main_v19 main_v27
  let main_v29 : IVec S10000x2 1 := broadcastInDim S10000x2 ![0, 1] bcast_S10000x1_S10000x2_0_1 main_v28
  let main_v30 : FVec F S10000x128 .f32 := (fun l r => Host.dotGeneral dot_S10000x128_S128x128_S10000x128_1_0_0_1_n_n none l r) main_arg1 main_arg3
  let main_v31 : FVec F S10000x128 .f32 := (fun l r => Host.dotGeneral dot_S10000x10000_S10000x128_S10000x128_1_0_0_1_n_n none l r) main_arg2 main_v30
  let main_cst_7 : FVec F S_ .f32 := constant S_ .f32 0x00000000#32
  let main_v32 : FVec F S10000x128 .f32 := broadcastInDim S10000x128 ![] bcast_S_S10000x128 main_cst_7
  let main_v33 : FVec F S10000x128 .f32 := maximumf main_v31 main_v32
  let main_v34 : FVec F S10000x128 .f32 := (fun l r => Host.dotGeneral dot_S10000x10000_S10000x128_S10000x128_1_0_0_1_n_n none l r) main_arg2 main_v33
  let main_cst_8 : FVec F S_ .f32 := constant S_ .f32 0x00000000#32
  let main_v35 : FVec F S10000 .f32 := (fun x v => Host.reduceAdd x v reducesTo_S10000x10000_S10000_d1 h_S_) main_arg2 main_cst_8
  let main_v36 : FVec F S10000x1 .f32 := broadcastInDim S10000x1 ![0] bcast_S10000_S10000x1_0 main_v35
  fn_part2 (F := F) main_v0 main_v29 main_v34 main_v36

def fn {F : FTy → Type} [FloatOps F] (main_arg0 : FVec F S10000x128 .f32) (main_arg1 : FVec F S10000x128 .f32) (main_arg2 : FVec F S10000x10000 .f32) (main_arg3 : FVec F S128x128 .f32) (main_arg4 : FVec F S128x128 .f32) (main_arg5 : FVec F S1x128x128 .f32) (main_arg6 : FVec F S1 .f32) : IVec S10000x128 1 × IVec S10000x128 1 × IVec S10000x2 1 × IVec S10000x2 1 :=
  let main_c : IVec S_ 1 := constantI S_ 1 1#1
  let main_v0 : IVec S10000x128 1 := broadcastInDim S10000x128 ![] bcast_S_S10000x128 main_c
  let main_v1 : FVec F S10000x128 .f32 := (fun l r => Host.dotGeneral dot_S10000x128_S128x128_S10000x128_1_0_0_1_n_n none l r) main_arg0 main_arg3
  let main_v2 : FVec F S10000x128 .f32 := (fun l r => Host.dotGeneral dot_S10000x10000_S10000x128_S10000x128_1_0_0_1_n_n none l r) main_arg2 main_v1
  let main_cst : FVec F S_ .f32 := constant S_ .f32 0x00000000#32
  let main_v3 : FVec F S10000x128 .f32 := broadcastInDim S10000x128 ![] bcast_S_S10000x128 main_cst
  let main_v4 : FVec F S10000x128 .f32 := maximumf main_v2 main_v3
  let main_v5 : FVec F S10000x128 .f32 := (fun l r => Host.dotGeneral dot_S10000x10000_S10000x128_S10000x128_1_0_0_1_n_n none l r) main_arg2 main_v4
  let main_cst_0 : FVec F S_ .f32 := constant S_ .f32 0x00000000#32
  let main_v6 : FVec F S10000 .f32 := (fun x v => Host.reduceAdd x v reducesTo_S10000x10000_S10000_d1 h_S_) main_arg2 main_cst_0
  let main_v7 : FVec F S10000x1 .f32 := broadcastInDim S10000x1 ![0] bcast_S10000_S10000x1_0 main_v6
  let main_v8 : FVec F S10000x128 .f32 := broadcastInDim S10000x128 ![0, 1] bcast_S10000x1_S10000x128_0_1 main_v7
  let main_v9 : FVec F S10000x128 .f32 := Host.divf main_v5 main_v8
  let main_v10 : FVec F S10000x128 .f32 := mulf main_v5 main_v5
  let main_cst_1 : FVec F S_ .f32 := constant S_ .f32 0x00000000#32
  let main_v11 : FVec F S10000 .f32 := (fun x v => Host.reduceAdd x v reducesTo_S10000x128_S10000_d1 h_S_) main_v10 main_cst_1
  let main_v12 : FVec F S10000x1 .f32 := broadcastInDim S10000x1 ![0] bcast_S10000_S10000x1_0 main_v11
  let main_v13 : FVec F S10000x1 .f32 := Host.sqrt main_v12
  let main_v14 : FVec F S10000x128 .f32 := mulf main_v9 main_v9
  let main_cst_2 : FVec F S_ .f32 := constant S_ .f32 0x00000000#32
  let main_v15 : FVec F S10000 .f32 := (fun x v => Host.reduceAdd x v reducesTo_S10000x128_S10000_d1 h_S_) main_v14 main_cst_2
  let main_v16 : FVec F S10000x1 .f32 := broadcastInDim S10000x1 ![0] bcast_S10000_S10000x1_0 main_v15
  let main_v17 : FVec F S10000x1 .f32 := Host.sqrt main_v16
  let main_cst_3 : FVec F S_ .f32 := constant S_ .f32 0x00000000#32
  fn_part1 (F := F) main_arg1 main_arg2 main_arg3 main_v0 main_v7 main_v13 main_v17 main_cst_3
-- ==== Kernel.lean ====
abbrev S10000x128 : Shape := ⟨2, ![10000, 128]⟩
abbrev S10000x10000 : Shape := ⟨2, ![10000, 10000]⟩
abbrev S128x128 : Shape := ⟨2, ![128, 128]⟩
abbrev S1x128x128 : Shape := ⟨3, ![1, 128, 128]⟩
abbrev S1 : Shape := ⟨1, ![1]⟩
abbrev S10000x256 : Shape := ⟨2, ![10000, 256]⟩
abbrev S400x10000 : Shape := ⟨2, ![400, 10000]⟩
abbrev S400x128 : Shape := ⟨2, ![400, 128]⟩
abbrev S400x256 : Shape := ⟨2, ![400, 256]⟩
abbrev S10000x2 : Shape := ⟨2, ![10000, 2]⟩
abbrev S1000x10000 : Shape := ⟨2, ![1000, 10000]⟩
abbrev S1000x2 : Shape := ⟨2, ![1000, 2]⟩
abbrev S1000x256 : Shape := ⟨2, ![1000, 256]⟩
abbrev S1000x128 : Shape := ⟨2, ![1000, 128]⟩
abbrev S1000 : Shape := ⟨1, ![1000]⟩
abbrev S1000x1 : Shape := ⟨2, ![1000, 1]⟩

abbrev nBuf : Space → Nat
  | .hbm => 14
  | .vmem => 25
  | .smem => 1
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S1x128x128, .f32⟩
  | .hbm, ⟨6, _⟩ => ⟨S1, .f32⟩
  | .hbm, ⟨7, _⟩ => ⟨S10000x128, .f32⟩
  | .hbm, ⟨8, _⟩ => ⟨S10000x128, .f32⟩
  | .hbm, ⟨9, _⟩ => ⟨S10000x256, .bf16⟩
  | .hbm, ⟨10, _⟩ => ⟨S10000x256, .fp8e4m3⟩
  | .hbm, ⟨11, _⟩ => ⟨S10000x10000, .fp8e4m3⟩
  | .hbm, ⟨12, _⟩ => ⟨S10000x2, .f32⟩
  | .hbm, ⟨13, _⟩ => ⟨S10000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x256, .bf16⟩
  | .local _ .vmem, ⟨10, _⟩ => ⟨S400x256, .bf16⟩
  | .local _ .vmem, ⟨11, _⟩ => ⟨S400x256, .fp8e4m3⟩
  | .local _ .vmem, ⟨12, _⟩ => ⟨S400x256, .fp8e4m3⟩
  | .local _ .vmem, ⟨13, _⟩ => ⟨S400x10000, .fp8e4m3⟩
  | .local _ .vmem, ⟨14, _⟩ => ⟨S400x10000, .fp8e4m3⟩
  | .local _ .vmem, ⟨15, _⟩ => ⟨S10000x256, .bf16⟩
  | .local _ .vmem, ⟨16, _⟩ => ⟨S1000x10000, .fp8e4m3⟩
  | .local _ .vmem, ⟨17, _⟩ => ⟨S1000x10000, .fp8e4m3⟩
  | .local _ .vmem, ⟨18, _⟩ => ⟨S10000x256, .bf16⟩
  | .local _ .vmem, ⟨19, _⟩ => ⟨S10000x256, .fp8e4m3⟩
  | .local _ .vmem, ⟨20, _⟩ => ⟨S1x128x128, .f32⟩
  | .local _ .vmem, ⟨21, _⟩ => ⟨S1000x2, .f32⟩
  | .local _ .vmem, ⟨22, _⟩ => ⟨S1000x2, .f32⟩
  | .local _ .vmem, ⟨23, _⟩ => ⟨S1000x2, .f32⟩
  | .local _ .vmem, ⟨24, _⟩ => ⟨S1000x2, .f32⟩
  | .local _ .smem, ⟨0, _⟩ => ⟨S1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x10000 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def k1_off1 (i : grid1.Coords) : Fin 2 → Nat :=
  let arg0 : BitVec 32 := BitVec.ofNat 32 (i 0).val
  let c1000_i32 : BitVec 32 := 1000#32
  let v29 : BitVec 32 := Scalar.muli arg0 c1000_i32
  let v30 : Index := Scalar.indexCast v29
  let c0_11 : Index := 0#32
  ![v30.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x256 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1x128x128 : Shape := ⟨3, ![1, 128, 128]⟩
abbrev S1 : Shape := ⟨1, ![1]⟩
abbrev S_ : Shape := ⟨0, ![]⟩
abbrev S10000 : Shape := ⟨1, ![10000]⟩
abbrev S10000x1 : Shape := ⟨2, ![10000, 1]⟩
abbrev S1x1 : Shape := ⟨2, ![1, 1]⟩
abbrev S10000x2 : Shape := ⟨2, ![10000, 2]⟩

abbrev nBuf : Space → Nat
  | .hbm => 105
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S1x128x128, .f32⟩
  | .hbm, ⟨6, _⟩ => ⟨S1, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000, .f32⟩
  | .hbm, ⟨46, _⟩ => ⟨S10000x1, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x1, .f32⟩
  | .hbm, ⟨54, _⟩ => ⟨S_, .f32⟩
  | .hbm, ⟨55, _⟩ => ⟨S10000x1, .f32⟩
  | .hbm, ⟨56, _⟩ => ⟨S10000x1, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S128x128, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000, .f32⟩
  | .hbm, ⟨72, _⟩ => ⟨S10000x1, .f32⟩
  | .hbm, ⟨73, _⟩ => ⟨S1x1, .f32⟩
  | .hbm, ⟨74, _⟩ => ⟨S10000x1, .f32⟩
  | .hbm, ⟨75, _⟩ => ⟨S10000x1, .f32⟩
  | .hbm, ⟨76, _⟩ => ⟨S128x128, .f32⟩
  | .hbm, ⟨77, _⟩ => ⟨S10000x128, .f32⟩
  | .hbm, ⟨78, _⟩ => ⟨S10000x128, .f32⟩
  | .hbm, ⟨79, _⟩ => ⟨S_, .f32⟩
  | .hbm, ⟨80, _⟩ => ⟨S10000, .f32⟩
  | .hbm, ⟨81, _⟩ => ⟨S10000x1, .f32⟩
  | .hbm, ⟨82, _⟩ => ⟨S1x1, .f32⟩
  | .hbm, ⟨83, _⟩ => ⟨S10000x1, .f32⟩
  | .hbm, ⟨84, _⟩ => ⟨S10000x1, .f32⟩
  | .hbm, ⟨85, _⟩ => ⟨S10000x2, .f32⟩
  | .hbm, ⟨86, _⟩ => ⟨S128x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000, .f32⟩
  | .hbm, ⟨91, _⟩ => ⟨S10000x1, .f32⟩
  | .hbm, ⟨92, _⟩ => ⟨S1x1, .f32⟩
  | .hbm, ⟨93, _⟩ => ⟨S10000x1, .f32⟩
  | .hbm, ⟨94, _⟩ => ⟨S10000x1, .f32⟩
  | .hbm, ⟨95, _⟩ => ⟨S128x128, .f32⟩
  | .hbm, ⟨96, _⟩ => ⟨S10000x128, .f32⟩
  | .hbm, ⟨97, _⟩ => ⟨S10000x128, .f32⟩
  | .hbm, ⟨98, _⟩ => ⟨S_, .f32⟩
  | .hbm, ⟨99, _⟩ => ⟨S10000, .f32⟩
  | .hbm, ⟨100, _⟩ => ⟨S10000x1, .f32⟩
  | .hbm, ⟨101, _⟩ => ⟨S1x1, .f32⟩
  | .hbm, ⟨102, _⟩ => ⟨S10000x1, .f32⟩
  | .hbm, ⟨103, _⟩ => ⟨S10000x1, .f32⟩
  | .hbm, ⟨104, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proof.KernelIdeal.Pass1Run.lean ====
/- The first pass's kernel body, run symbolically. At the first grid point it fills the scratch buffer with the two
   feature products; at every later point it multiplies its block of the adjacency matrix with that buffer and stores
   its five output blocks. Each case is one triple whose conclusion names what every buffer holds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.VecWindow

@[expose] public section

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-- The scratch buffer, which the kernel carries from one grid point to the next. -/
abbrev scratch : Memref sig .tc .vmem S10000x256 .bf16 := Memref.whole cc0_scratch0

/-- The two stores that fill the scratch buffer, the later one first. -/
abbrev fill (x0 x1 : Vec F S10000x128 .f32) (x2 : Vec F S128x128 .f32) : List (View.Piece (Elt F) S10000x256 .bf16) :=
  [⟨Rect.unit (s := S10000x256) ![0, 128] S10000x128.size inb_S10000x256_S10000x128_0_128, k0_pay3 x2 x1⟩,
   ⟨Rect.unit (s := S10000x256) ![0, 0] S10000x128.size inb_S10000x256_S10000x128_0_0, k0_pay2 x2 x0⟩]

/-- What the scratch buffer holds from the second point on: the two feature products side by side. -/
def feats (x0 x1 : Vec F S10000x128 .f32) (x2 : Vec F S128x128 .f32) : Vec F S10000x256 .bf16 :=
  scratch.view.read (Elt F) (scratch.view.writes (Elt F) scratch.view.junk (fill x0 x1 x2))

/-- The two stores cover the scratch buffer, so that what it held before does not matter. -/
theorem fill_cover (x0 x1 : Vec F S10000x128 .f32) (x2 : Vec F S128x128 .f32) (y : S10000x256.Idx) :
    ∃ p ∈ fill x0 x1 x2, y ∈ p.1.set :=
  View.cover_of_tiledL (fill x0 x1 x2) S10000x128.size (by sl_kernel_rfl) y

/-- A load of a whole buffer reads the contents it is held at. -/
theorem load_whole {sp : Space} {s : Shape} {e : EltTy} {m : Memref sig .tc sp s e} (h : m.IsWhole) (x : s.Idx → Elt F e) {off : Fin s.rank → ℕ}
    (inb : ∀ a, off a + s.size a ≤ s.size a) : m.view.readAt (Elt F) (Rect.unit off s.size inb).toLoadRect (h.unread x) = x := by
  rw [View.readAt_full, h.read_unread]

/-- The kernel's first branch is taken at the first grid point. -/
abbrev atFirst (i : grid0.Coords) : Prop := (Scalar.cmpi .ne (Scalar.extui (Scalar.cmpi .eq (BitVec.ofNat 32 (i 0).val) 0#32)) 0#32) = 1#1
/-- The kernel's second branch is taken at the others. -/
abbrev atLater (i : grid0.Coords) : Prop := k0_cond2 i = 1#1

set_option maxHeartbeats 1000000 in
/-- The body at the first point: the scratch buffer is filled, the outputs' buffers are not touched. -/
theorem run_first (𝒱₀ : Variants) (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S400x256 .bf16) (harg7 : arg7.IsWhole) (arg8 : Memref sig .tc .vmem S400x256 .fp8e4m3) (harg8 : arg8.IsWhole) (arg9 : Memref sig .tc .vmem S400x10000 .fp8e4m3) (harg9 : arg9.IsWhole) (hc0 : atFirst i) (hc1 : ¬atLater i)
    (x0 x1 : Vec F S10000x128 .f32) (x2 : Vec F S128x128 .f32) (P : sProp 𝕄) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) scratch fullShare d) ∗ P
        ∗ (iprop(owns (c : Thread nD τ) arg1 fullShare x0 ∗ owns (c : Thread nD τ) arg2 fullShare x1 ∗ owns (c : Thread nD τ) arg3 fullShare x2 ∗ owns (c : Thread nD τ) scratch fullShare (feats x0 x1 x2) ∗ P) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9 scratch (Memref.isWhole_whole _)) K := by
  have hS : scratch.IsWhole := Memref.isWhole_whole _
  simp only [cc0__pass1_kernel_eq_skeleton]; unfold cc0__pass1_kernel_skel
  unfold owns
  iintro ⟨⟨%f0, %hf0, H0⟩, ⟨%f1, %hf1, H1⟩, ⟨%f2, %hf2, H2⟩, ⟨%ds0, %fs0, -, HS0⟩, HP, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    rw [load_whole harg1, load_whole harg2, load_whole harg3]
    unfold feats
    exact View.read_writes_of_cover _ _ _ _ (fill x0 x1 x2) (fill_cover x0 x1 x2)
  iexact HP

set_option maxHeartbeats 1000000 in
/-- The body at a later point: the five outputs' buffers end at the products of the adjacency block with the scratch
    buffer and at the block's own narrow copy; the scratch buffer is read only. -/
theorem run_later (𝒱₀ : Variants) (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S400x128 .f32) (harg6 : arg6.IsWhole) (arg7 : Memref sig .tc .vmem S400x256 .bf16) (harg7 : arg7.IsWhole) (arg8 : Memref sig .tc .vmem S400x256 .fp8e4m3) (harg8 : arg8.IsWhole) (arg9 : Memref sig .tc .vmem S400x10000 .fp8e4m3) (harg9 : arg9.IsWhole) (hc0 : ¬atFirst i) (hc1 : atLater i)
    (x3 : Vec F S400x10000 .f32) (xs : Vec F S10000x256 .bf16) (P : sProp 𝕄) (E : Set ℕ) (K : PUnit → sProp 𝕄) :
    iprop(owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) scratch fullShare xs ∗ P
        ∗ (iprop(owns (c : Thread nD τ) arg4 fullShare x3 ∗ owns (c : Thread nD τ) arg5 fullShare (k0_pay5 x3 xs) ∗ owns (c : Thread nD τ) arg6 fullShare (k0_pay7 x3 xs) ∗ owns (c : Thread nD τ) arg7 fullShare (k0_pay8 x3 xs) ∗ owns (c : Thread nD τ) arg8 fullShare (k0_pay9 x3 xs) ∗ owns (c : Thread nD τ) arg9 fullShare (k0_pay10 x3) ∗ owns (c : Thread nD τ) scratch fullShare xs ∗ P) -∗ K ⟨⟩))
      ⊢ wp frame (wpE (defs₀ (F := F)) 𝒱₀ c none) E (cc0__pass1_kernel i arg1 harg1 arg2 harg2 arg3 harg3 arg4 harg4 arg5 harg5 arg6 harg6 arg7 harg7 arg8 harg8 arg9 harg9 scratch (Memref.isWhole_whole _)) K := by
  have hS : scratch.IsWhole := Memref.isWhole_whole _
  simp only [cc0__pass1_kernel_eq_skeleton]; unfold cc0__pass1_kernel_skel
  unfold owns
  iintro ⟨⟨%f3, %hf3, H3⟩, ⟨%d5, %f5, -, H5⟩, ⟨%d6, %f6, -, H6⟩, ⟨%d7, %f7, -, H7⟩, ⟨%d8, %f8, -, H8⟩, ⟨%d9, %f9, -, H9⟩, ⟨%fs, %hfs, HS⟩, HP, Hk⟩
  obtain rfl := harg4.eq_unread hf3; obtain rfl := hS.eq_unread hfs
  sl_exec (disch := first | sl_exact hc0 | sl_exact hc1)
  sl_step
  iapply Hk
  isplitl [H3]
  · iexists _; isplitr; · ipureintro; exact harg4.read_unread _
    iexact H3
  isplitl [H5]
  · iexists _; isplitr
    swap; · iexact H5
    ipureintro; rw [View.read_writes_full, load_whole harg4, load_whole hS]
  isplitl [H6]
  · iexists _; isplitr
    swap; · iexact H6
    ipureintro; rw [View.read_writes_full, load_whole harg4, load_whole hS]
  isplitl [H7]
  · iexists _; isplitr
    swap; · iexact H7
    ipureintro; rw [View.read_writes_full, load_whole harg4, load_whole hS]
  isplitl [H8]
  · iexists _; isplitr
    swap; · iexact H8
    ipureintro; rw [View.read_writes_full, load_whole harg4, load_whole hS]
  isplitl [H9]
  · iexists _; isplitr
    swap; · iexact H9
    ipureintro; rw [View.read_writes_full, load_whole harg4]
  isplitl [HS]
  · iexists _; isplitr; · ipureintro; exact hS.read_unread _
    iexact HS
  iexact HP

end Cert.KernelIdeal.Pass1

end
-- ==== Proof.KernelIdeal.Pass1.lean ====
/- The first pass as a pipeline: what its windows' buffers hold after each grid point, the invariant that carries the
   scratch buffer from point to point, and the obligation that the kernel's body meets at every point. Stated at any
   contents of the arrays on entry. -/
module

public import proofs.«01_k».proof.Proof.KernelIdeal.Pass1Run
public import Idealize.ShloMosaic.Lib.Pipeline.FrameSuffix
public import Idealize.ShloMosaic.Lib.Pipeline.Kit

@[expose] public section

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The grid's points -/

/-- The first branch is taken at the first point only. -/
theorem atFirst_iff : ∀ t : Fin cfg0.N, atFirst (grid0.coords t) ↔ t.val = 0 :=
  (by decide +kernel : ∀ t : Fin grid0.N, atFirst (grid0.coords t) ↔ t.val = 0)
/-- The second branch is taken at every other point. -/
theorem atLater_iff : ∀ t : Fin cfg0.N, atLater (grid0.coords t) ↔ t.val ≠ 0 :=
  (by decide +kernel : ∀ t : Fin grid0.N, atLater (grid0.coords t) ↔ t.val ≠ 0)

/-- The outputs are idle at the first point, -/
theorem idle_first : ∀ t : Fin cfg0.N, t.val = 0 → ∀ w : Fin cfg0.W, 4 ≤ w.val → cfg0.idle w (grid0.coords t) = true ∧ (cfg0.win w).flush t = false := by
  decide +kernel
/-- and written at every other. -/
theorem live_later : ∀ t : Fin cfg0.N, t.val ≠ 0 → ∀ w : Fin cfg0.W, 4 ≤ w.val → cfg0.idle w (grid0.coords t) = false := by
  decide +kernel

/-! ## What the buffers hold -/

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev pt0 : Fin cfg0.N := ⟨0, by decide⟩

/-- The scratch buffer's contents after the first point. -/
def z (c : Dev nD) : Vec F S10000x256 .bf16 := feats (iblk V c 0 pt0) (iblk V c 1 pt0) (iblk V c 2 pt0)

/-- A buffer at some contents. -/
abbrev anyAt (c : Dev nD) (b : Ref sig .tc) : sProp 𝕄 := iprop(∃ f : Buf (Elt F) ((c : Thread nD τ).loc b), ((c : Thread nD τ).loc b) ↦{fullShare} f)

/-- The buffers of the core that the first pass does not touch: the second pass's staging buffers. -/
def others (c : Dev nD) : sProp 𝕄 :=
  iprop(anyAt c cc1_stg0_0 ∗ anyAt c cc1_stg0_1 ∗ anyAt c cc1_stg1_0 ∗ anyAt c cc1_stg2_0 ∗ anyAt c cc1_stg3_0 ∗ anyAt c cc1_stg5_0 ∗ anyAt c cc1_stg5_1 ∗ anyAt c cc1_stg6_0 ∗ anyAt c cc1_stg6_1 ∗ anyAt c cc1_stg4_0)

/-- What the launch hands the first pass is the scratch buffer at anything and the untouched buffers. -/
theorem scoped_eq (c : Dev nD) :
    (Pipeline.scopedRest (Ix := Ix) (Name := ℕ) (U := U) (Lvl := Lvl) (Val := Elt F) spec0 c : sProp 𝕄)
      = iprop((∃ d, owns (c : Thread nD τ) scratch fullShare d) ∗ others c) := by
  rw [scopedRest0_eq]; unfold others; simp only [scratch, owns_whole]; try rfl

/-- The invariant after the first point. -/
def filled (c : Dev nD) : sProp 𝕄 :=
  iprop((owns (c : Thread nD τ) scratch fullShare (z V c) ∗ others c) ∗ ∃ r, prngReg c r)

/-- The invariant: before the first point the scratch buffer holds anything, from then on the feature products. -/
def inv (c : Dev nD) : ℕ → sProp 𝕄
  | 0 => iprop(((∃ d, owns (c : Thread nD τ) scratch fullShare d) ∗ others c) ∗ ∃ r, prngReg c r)
  | _ + 1 => filled V c

/-- The pipeline's proof data. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay5 (iblk V c 3 t) (z V c)
    | ⟨5, _⟩ => k0_pay7 (iblk V c 3 t) (z V c)
    | ⟨6, _⟩ => k0_pay8 (iblk V c 3 t) (z V c)
    | ⟨7, _⟩ => k0_pay9 (iblk V c 3 t) (z V c)
    | ⟨8, _⟩ => k0_pay10 (iblk V c 3 t)
  Φ t := inv V c t.val
  q _ := fullShare
  owed _ := D c

variable (ι : Ix)

local notation "𝕕" => dat (Ix := Ix) (U := U) (Lvl := Lvl) V D

theorem A_eq (c : Dev nD) (w : Fin cfg0.W) : (𝕕 c).A w = V c (Pipeline.arrRef spec0 w) := by
  dsimp only [dat]
theorem after_0 (c : Dev nD) (t : Fin cfg0.N) : (𝕕 c).after 0 t = iblk V c 0 t := by dsimp only [dat]
theorem after_1 (c : Dev nD) (t : Fin cfg0.N) : (𝕕 c).after 1 t = iblk V c 1 t := by dsimp only [dat]
theorem after_2 (c : Dev nD) (t : Fin cfg0.N) : (𝕕 c).after 2 t = iblk V c 2 t := by dsimp only [dat]
theorem after_3 (c : Dev nD) (t : Fin cfg0.N) : (𝕕 c).after 3 t = iblk V c 3 t := by dsimp only [dat]
theorem after_4 (c : Dev nD) (t : Fin cfg0.N) : (𝕕 c).after 4 t = k0_pay5 (iblk V c 3 t) (z V c) := by dsimp only [dat]
theorem after_5 (c : Dev nD) (t : Fin cfg0.N) : (𝕕 c).after 5 t = k0_pay7 (iblk V c 3 t) (z V c) := by dsimp only [dat]
theorem after_6 (c : Dev nD) (t : Fin cfg0.N) : (𝕕 c).after 6 t = k0_pay8 (iblk V c 3 t) (z V c) := by dsimp only [dat]
theorem after_7 (c : Dev nD) (t : Fin cfg0.N) : (𝕕 c).after 7 t = k0_pay9 (iblk V c 3 t) (z V c) := by dsimp only [dat]
theorem after_8 (c : Dev nD) (t : Fin cfg0.N) : (𝕕 c).after 8 t = k0_pay10 (iblk V c 3 t) := by dsimp only [dat]
theorem before_0 (c : Dev nD) (t : Fin cfg0.N) (d) : (𝕕 c).before 0 t d = iblk V c 0 t :=
  ((𝕕 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (𝕕 c).before 1 t d = iblk V c 1 t :=
  ((𝕕 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (𝕕 c).before 2 t d = iblk V c 2 t :=
  ((𝕕 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (𝕕 c).before 3 t d = iblk V c 3 t :=
  ((𝕕 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## The body obligation -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x10000 .fp8e4m3 := win0_8.stage (cfg0.slots t 8)
abbrev hs0_8 (t : Fin cfg0.N) : (ms0_8 t).IsWhole := hstage0_8 ((cfg0.slots t 8).cast nbuf0_8)

/-- What the body is called with at a point, -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d))
    ∗ (∃ d, owns (c : Thread nD τ) (ms0_7 t) fullShare ((𝕕 c).before 7 t d))
    ∗ (∃ d, owns (c : Thread nD τ) (ms0_8 t) fullShare ((𝕕 c).before 8 t d)))

/-- and what it returns. -/
def bodyPost (c : Dev nD) (t : Fin cfg0.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t
    ∗ (𝕕 c).leavesExact 6 t
    ∗ (𝕕 c).leavesExact 7 t
    ∗ (𝕕 c).leavesExact 8 t)

set_option maxHeartbeats 3200000 in
/-- The body at any point. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before_0, before_1, before_2, before_3]
  rw [show (𝕕 c).owesAt ι t.succ = (𝕕 c).owesAt ι t.castSucc from rfl,
    show (𝕕 c).Φ t.succ = filled V c from rfl, show (𝕕 c).Φ t.castSucc = inv V c t.val from rfl]
  unfold filled
  rw [show (𝕕 c).leavesExact 0 t = owns (c : Thread nD τ) (ms0_0 t) fullShare ((𝕕 c).after 0 t) from rfl, after_0]
  rw [show (𝕕 c).leavesExact 1 t = owns (c : Thread nD τ) (ms0_1 t) fullShare ((𝕕 c).after 1 t) from rfl, after_1]
  rw [show (𝕕 c).leavesExact 2 t = owns (c : Thread nD τ) (ms0_2 t) fullShare ((𝕕 c).after 2 t) from rfl, after_2]
  rw [show (𝕕 c).leavesExact 3 t = owns (c : Thread nD τ) (ms0_3 t) fullShare ((𝕕 c).after 3 t) from rfl, after_3]
  by_cases h : t.val = 0
  · rw [h]
    have hc0 := (atFirst_iff t).mpr h
    have hc1 : ¬atLater (grid0.coords t) := fun h' => (atLater_iff t).mp h' h
    have hi := idle_first t h
    rw [Dat.leavesExact_idle (𝕕 c) 4 t (hi 4 (by decide)).1 (hi 4 (by decide)).2]
    rw [Dat.leavesExact_idle (𝕕 c) 5 t (hi 5 (by decide)).1 (hi 5 (by decide)).2]
    rw [Dat.leavesExact_idle (𝕕 c) 6 t (hi 6 (by decide)).1 (hi 6 (by decide)).2]
    rw [Dat.leavesExact_idle (𝕕 c) 7 t (hi 7 (by decide)).1 (hi 7 (by decide)).2]
    rw [Dat.leavesExact_idle (𝕕 c) 8 t (hi 8 (by decide)).1 (hi 8 (by decide)).2]
    unfold inv
    iintro ⟨⟨⟨HS, HR⟩, Hg⟩, Ho, ⟨%d0, H0⟩, ⟨%d1, H1⟩, ⟨%d2, H2⟩, ⟨%d3, H3⟩, H4, H5, H6, H7, H8⟩
    have hz : feats (iblk V c 0 t) (iblk V c 1 t) (iblk V c 2 t) = z V c := by
      obtain rfl : t = pt0 := Fin.ext h
      rfl
    iapply (run_first 𝒱₀ c (grid0.coords t) _ _ _ _ _ _ _ _ _ _ _ _ _ _ _ _ _ _ hc0 hc1 (iblk V c 0 t) (iblk V c 1 t) (iblk V c 2 t) (others c) Set.univ _)
    isplitl [H0]; · iexact H0
    isplitl [H1]; · iexact H1
    isplitl [H2]; · iexact H2
    isplitl [HS]; · iexact HS
    isplitl [HR]; · iexact HR
    rw [hz]
    iintro ⟨H0, H1, H2, HS, HR⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬atFirst (grid0.coords t) := fun h' => h ((atFirst_iff t).mp h')
    have hc1 := (atLater_iff t).mpr h
    have hl := live_later t h
    rw [show (𝕕 c).leavesExact 4 t = owns (c : Thread nD τ) (ms0_4 t) fullShare ((𝕕 c).after 4 t) from by
      unfold Dat.leavesExact; rw [hl 4 (by decide)], after_4]
    rw [show (𝕕 c).leavesExact 5 t = owns (c : Thread nD τ) (ms0_5 t) fullShare ((𝕕 c).after 5 t) from by
      unfold Dat.leavesExact; rw [hl 5 (by decide)], after_5]
    rw [show (𝕕 c).leavesExact 6 t = owns (c : Thread nD τ) (ms0_6 t) fullShare ((𝕕 c).after 6 t) from by
      unfold Dat.leavesExact; rw [hl 6 (by decide)], after_6]
    rw [show (𝕕 c).leavesExact 7 t = owns (c : Thread nD τ) (ms0_7 t) fullShare ((𝕕 c).after 7 t) from by
      unfold Dat.leavesExact; rw [hl 7 (by decide)], after_7]
    rw [show (𝕕 c).leavesExact 8 t = owns (c : Thread nD τ) (ms0_8 t) fullShare ((𝕕 c).after 8 t) from by
      unfold Dat.leavesExact; rw [hl 8 (by decide)], after_8]
    obtain ⟨n, hn⟩ := Nat.exists_eq_succ_of_ne_zero h
    rw [hn]
    unfold inv filled
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later 𝒱₀ c (grid0.coords t) _ _ _ _ _ _ _ _ _ _ _ _ _ _ _ _ _ _ hc0 hc1 (iblk V c 3 t) (z V c) (others c) Set.univ _)
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS]; · iexact HS
    isplitl [HR]; · iexact HR
    iintro ⟨H3, H4, H5, H6, H7, H8, HS, HR⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

/-- What the launch hands the region is the invariant before the first point, -/
theorem enter (c : Dev nD) : iprop(Pipeline.scopedRest (Ix := Ix) (Name := ℕ) (U := U) (Lvl := Lvl) (Val := Elt F) spec0 c ∗ ∃ r, prngReg c r) ⊢ (𝕕 c).Φ 0 := by
  rw [scoped_eq]
  exact .rfl

/-- and the invariant after the last point gives it back. -/
theorem leave (c : Dev nD) : (𝕕 c).Φ (Fin.last cfg0.N) ⊢ iprop(Pipeline.scopedRest (Ix := Ix) (Name := ℕ) (U := U) (Lvl := Lvl) (Val := Elt F) spec0 c ∗ ∃ r, prngReg c r) := by
  rw [scoped_eq, show (𝕕 c).Φ (Fin.last cfg0.N) = filled V c from rfl]
  unfold filled
  iintro ⟨⟨HS, HR⟩, Hg⟩
  isplitl [HS HR]
  · isplitl [HS]; · iexists _; iexact HS
    iexact HR
  iexact Hg

end Cert.KernelIdeal.Pass1

end
-- ==== Proof.KernelIdeal.Run.lean ====
/- The whole program's run: the first pass's region, then the second's, entered from the launch and read at the end.
   Every buffer of the device that outlives the program ends at the contents that the two regions' proof data give. -/
module

public import proofs.«01_k».proof.Proof.KernelIdeal.Pass1
public import proofs.«01_k».proof.Proof.Gen.Own.KernelIdeal.RegionsD
public import proofs.«01_k».proof.Proof.Gen.KernelIdeal.Regions
public import Idealize.ShloMosaic.Lib.Pipeline.RegionArrays

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No variants are named. -/
abbrev 𝒱₀ : Variants := Variants.none
/-- Every semaphore of the TensorCore carries the one index, at level zero. -/
abbrev L (g : GSem nD τ sig) : Finset Unit := if g.1.2 = .tc then {()} else ∅
abbrev lv (_ : GSem nD τ sig) (_ : Unit) : ℕ := 0

/-! ## The contents between the regions -/

/-- The first region's proof data, entered at the launch's contents; the core owes nothing. -/
def dat0 (c : Dev nD) : Dat τ (Elt F) Unit ℕ (UR sig nD τ) ℕ cfg0 c :=
  Pass1.dat (fun c b => V0 m c (Proc.devRef .tc b)) (fun _ => 0) c

section

variable {c : Dev nD} (V : Valuation τ sig (Elt F)) (a0 : Buf (Elt F) ((c : Thread nD τ).loc main_v0_0)) (a1 : Buf (Elt F) ((c : Thread nD τ).loc main_v0_1))
  (a2 : Buf (Elt F) ((c : Thread nD τ).loc main_v0_2)) (a3 : Buf (Elt F) ((c : Thread nD τ).loc main_v0_3)) (a4 : Buf (Elt F) ((c : Thread nD τ).loc main_v0_4))
  (b0 : Buf (Elt F) ((c : Thread nD τ).loc main_v1_0)) (b1 : Buf (Elt F) ((c : Thread nD τ).loc main_v1_1))

/-- Buffers with the first region's five outputs replaced. -/
def put5 : Valuation τ sig (Elt F) :=
  Function.update (Function.update (Function.update (Function.update (Function.update V main_v0_0 a0) main_v0_1 a1) main_v0_2 a2) main_v0_3 a3) main_v0_4 a4

/-- Buffers with the second region's two outputs replaced. -/
def put2 : Valuation τ sig (Elt F) := Function.update (Function.update V main_v1_0 b0) main_v1_1 b1

theorem put5_4 : put5 V a0 a1 a2 a3 a4 main_v0_4 = a4 := Function.update_self ..
theorem put5_3 : put5 V a0 a1 a2 a3 a4 main_v0_3 = a3 := by
  rw [put5, Function.update_of_ne (StableHlo.devRef_ne_of_ne (by decide))]; exact Function.update_self ..
theorem put5_2 : put5 V a0 a1 a2 a3 a4 main_v0_2 = a2 := by
  rw [put5, Function.update_of_ne (StableHlo.devRef_ne_of_ne (by decide)), Function.update_of_ne (StableHlo.devRef_ne_of_ne (by decide))]
  exact Function.update_self ..
theorem put5_1 : put5 V a0 a1 a2 a3 a4 main_v0_1 = a1 := by
  rw [put5, Function.update_of_ne (StableHlo.devRef_ne_of_ne (by decide)), Function.update_of_ne (StableHlo.devRef_ne_of_ne (by decide)),
    Function.update_of_ne (StableHlo.devRef_ne_of_ne (by decide))]
  exact Function.update_self ..
theorem put5_0 : put5 V a0 a1 a2 a3 a4 main_v0_0 = a0 := by
  rw [put5, Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]
  exact Function.update_self ..
theorem put2_1 : put2 V b0 b1 main_v1_1 = b1 := Function.update_self ..
theorem put2_0 : put2 V b0 b1 main_v1_0 = b0 := by
  rw [put2, Function.update_of_ne (StableHlo.devRef_ne_of_ne (by decide))]; exact Function.update_self ..

theorem put5_of {b : DevRef τ sig} (h0 : b ≠ Proc.devRef .tc main_v0_0) (h1 : b ≠ Proc.devRef .tc main_v0_1) (h2 : b ≠ Proc.devRef .tc main_v0_2)
    (h3 : b ≠ Proc.devRef .tc main_v0_3) (h4 : b ≠ Proc.devRef .tc main_v0_4) : put5 V a0 a1 a2 a3 a4 b = V b := by
  rw [put5, Function.update_of_ne h4, Function.update_of_ne h3, Function.update_of_ne h2, Function.update_of_ne h1, Function.update_of_ne h0]

end

/-- A device's buffers when the first region ends: its five outputs at what its data leave there. -/
def after0 (c : Dev nD) : Valuation τ sig (Elt F) :=
  put5 (c := c) (V0 m c) ((dat0 m c).arrAt 4 cfg0.N) ((dat0 m c).arrAt 5 cfg0.N) ((dat0 m c).arrAt 6 cfg0.N) ((dat0 m c).arrAt 7 cfg0.N)
    ((dat0 m c).arrAt 8 cfg0.N)

/-- The second region's proof data, entered at the contents between the regions. -/
def dat1 (c : Dev nD) : Dat τ (Elt F) Unit ℕ (UR sig nD τ) ℕ cfg1 c :=
  Own.K1.dat 𝒱₀ (fun c b => after0 m c (Proc.devRef .tc b)) (fun _ => 0) c

/-- A device's buffers when the second region ends: its two outputs at what its data leave there. -/
def after1 (c : Dev nD) : Valuation τ sig (Elt F) :=
  put2 (c := c) (after0 m c) ((dat1 m c).arrAt 5 cfg1.N) ((dat1 m c).arrAt 6 cfg1.N)

/-- What each region leaves in a buffer. -/
def outs : Outs (F := F)
  | 2, r, c => after1 m c (Proc.devRef .tc r)
  | _, r, c => after0 m c (Proc.devRef .tc r)

section

variable (c : Dev nD)

theorem at_v0_0 : after0 m c main_v0_0 = (dat0 m c).arrAt 4 cfg0.N := by rw [after0, put5_0]
theorem at_v0_1 : after0 m c main_v0_1 = (dat0 m c).arrAt 5 cfg0.N := by rw [after0, put5_1]
theorem at_v0_2 : after0 m c main_v0_2 = (dat0 m c).arrAt 6 cfg0.N := by rw [after0, put5_2]
theorem at_v0_3 : after0 m c main_v0_3 = (dat0 m c).arrAt 7 cfg0.N := by rw [after0, put5_3]
theorem at_v0_4 : after0 m c main_v0_4 = (dat0 m c).arrAt 8 cfg0.N := by rw [after0, put5_4]
theorem at_v1_0 : after1 m c main_v1_0 = (dat1 m c).arrAt 5 cfg1.N := by rw [after1, put2_0]
theorem at_v1_1 : after1 m c main_v1_1 = (dat1 m c).arrAt 6 cfg1.N := by rw [after1, put2_1]

theorem V1_put5 (o : Outs (F := F)) : V1 m o c = put5 (c := c) (V0 m c) (o 1 main_v0_0 c) (o 1 main_v0_1 c) (o 1 main_v0_2 c) (o 1 main_v0_3 c)
    (o 1 main_v0_4 c) := rfl
theorem V2_put2 (o : Outs (F := F)) : V2 m o c = put2 (c := c) (V1 m o c) (o 2 main_v1_0 c) (o 2 main_v1_1 c) := rfl

theorem outs_1 (r : Ref sig .tc) : outs m 1 r c = after0 m c (Proc.devRef .tc r) := rfl
theorem outs_2 (r : Ref sig .tc) : outs m 2 r c = after1 m c (Proc.devRef .tc r) := rfl

/-- The generated contents after the first region are these. -/
theorem V1_eq : V1 m (outs m) c = after0 m c := by
  rw [V1_put5, outs_1, outs_1, outs_1, outs_1, outs_1, at_v0_0, at_v0_1, at_v0_2, at_v0_3, at_v0_4, ← after0]

/-- The generated contents after the second region are these. -/
theorem V2_eq : V2 m (outs m) c = after1 m c := by
  rw [V2_put2, outs_2, outs_2, at_v1_0, at_v1_1, V1_eq, ← after1]

end

theorem Ve1_eq : Own.Ve1 m (outs m) = fun c b => after0 m c (Proc.devRef .tc b) :=
  funext fun c => funext fun b => congrFun (V1_eq m c) _

/-- The proof data, the second region's left to the record that supplies it. -/
def base : (p : Fin 2) → (c : Dev nD) → Dat τ (Elt F) Unit ℕ (UR sig nD τ) ℕ (cfgs p) c
  | ⟨0, _⟩ => dat0 m
  | ⟨1, _⟩ => dat1 m

/-- The proof data of both regions. -/
abbrev pdats : (p : Fin 2) → (c : Dev nD) → Dat τ (Elt F) Unit ℕ (UR sig nD τ) ℕ (cfgs p) c :=
  Own.pdatsD m (outs m) 𝒱₀ (base m) (fun _ => 0)

/-! ## The first region's record -/

/-- No core owes anything, so that every wait is at the one level. -/
theorem cut (p : Fin 2) : Pipeline.LevelCut (pcfgs (F := F)) adm () L lv p (fun _ => 0) (fun _ => 0) :=
  ⟨fun _ _ _ => Finset.mem_singleton_self (), fun _ _ _ => le_rfl, fun _ _ _ h => absurd h (lt_irrefl _)⟩

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig :=
  Pipeline.arrRefs_sub_ucRefs spec0 (by decide)

/-- The buffers that are no array of the first region keep their contents. -/
theorem rest0_eq (c : Dev nD) : ∀ b ∈ (Pipeline.ucRefs τ sig) \ Pipeline.arrRefs (τ := τ) spec0, after0 m c b = V0 m c b := fun b hb => by
  have hn : b ∉ Pipeline.arrRefs (τ := τ) spec0 := (Finset.mem_sdiff.mp hb).2
  have ne (w : Fin cfg0.W) : b ≠ Proc.devRef .tc (Pipeline.arrRef spec0 w) := by rintro rfl; exact hn (arr0_mem w)
  exact put5_of _ _ _ _ _ _ (ne 4) (ne 5) (ne 6) (ne 7) (ne 8)

/-- Another array than an output of the first region is unchanged by it. -/
theorem after0_of (c : Dev nD) (r : Ref sig .tc) (h : r ∉ ([main_v0_0, main_v0_1, main_v0_2, main_v0_3, main_v0_4] : List (Ref sig .tc))) :
    after0 m c (Proc.devRef .tc r) = V0 m c (Proc.devRef .tc r) :=
  (congrFun (V1_eq m c) _).symm.trans (V1_of m (outs m) c r h)

/-- An input of the first region is after it what it was before. -/
theorem input0 (c : Dev nD) (w : Fin cfg0.W) (hw : (cfg0.win w).isOut = false)
    (h : Pipeline.arrRef spec0 w ∉ ([main_v0_0, main_v0_1, main_v0_2, main_v0_3, main_v0_4] : List (Ref sig .tc))) :
    (dat0 m c).arrAt w cfg0.N = after0 m c (Proc.devRef .tc (Pipeline.arrRef spec0 w)) :=
  ((dat0 m c).arrAt_in w hw _).trans ((Pass1.A_eq _ _ c w).trans (after0_of m c _ h).symm)

/-- Each array of the first region, at its end. -/
theorem left0 (c : Dev nD) : (w : Fin cfg0.W) → (dat0 m c).arrAt w cfg0.N = after0 m c (Proc.devRef .tc (Pipeline.arrRef spec0 w))
  | 0 => input0 m c 0 rfl (by decide)
  | 1 => input0 m c 1 rfl (by decide)
  | 2 => input0 m c 2 rfl (by decide)
  | 3 => input0 m c 3 rfl (by decide)
  | 4 => (at_v0_0 m c).symm
  | 5 => (at_v0_1 m c).symm
  | 6 => (at_v0_2 m c).symm
  | 7 => (at_v0_3 m c).symm
  | 8 => (at_v0_4 m c).symm
  | ⟨_ + 9, h⟩ => absurd h (Nat.not_lt.2 (Nat.le_add_left _ _))

-- the record's fields are stated over the pinned configuration, which unifies with this one only when plain definitions may be
-- unfolded in a metavariable's type
set_option backward.isDefEq.respectTransparency.types false in
/-- The first region: its arrays held at the launch's contents in, at its own out; every other buffer rides. -/
def R0 : RegionSeg (pcfgs (F := F)) adm (pdats m) () defs₀ 𝒱₀ L lv 0 :=
  Pipeline.RegionSeg.ofHeld (pcfgs (F := F)) adm (pdats m) () defs₀ 𝒱₀ L lv 0 (fun _ => 0)
    (fun c => iprop(∃ r, prngReg c r)) (fun c => iprop(∃ r, prngReg c r))
    launch0.toP rfl
    (fun c => (Pass1.body_obligation 𝒱₀ (fun c b => V0 m c (Proc.devRef .tc b)) (fun _ => 0) () c).loose) (fun _ _ => rfl) (fun _ => rfl)
    (fun c => (pdats m 0 c).share_full fun _ => rfl)
    (fun c => Pass1.enter (fun c b => V0 m c (Proc.devRef .tc b)) (fun _ => 0) c)
    (fun c => Pass1.leave (fun c b => V0 m c (Proc.devRef .tc b)) (fun _ => 0) c) (fun _ => 0) (cut 0)
    (fun c => StableHlo.held (c : Thread nD τ) ((Pipeline.ucRefs τ sig) \ Pipeline.arrRefs (τ := τ) spec0) (V0 m c))
    (V0 m) (after0 m) (fun _ _ => rfl) (left0 m)

/-- What rides beside the buffers at every boundary. -/
def E (_ : Fin 3) (c : Dev nD) : sProp 𝕄 := iprop((∃ r, prngReg c r) ∗ ∃ W, owes (c : Thread nD τ) (0 : CellTallies nD τ sig Unit) W)

theorem pre0 (c : Dev nD) : iprop(StableHlo.held (c : Thread nD τ) (Pipeline.ucRefs τ sig) (V0 m c) ∗ E 0 c) ⊢ (R0 m).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) 0 W)
  rw [StableHlo.held_sub_split (c : Thread nD τ) arr0_S (V0 m c)]
  unfold E
  iintro ⟨⟨Ha, Hr⟩, Hp, HO⟩
  isplitl [Ha]; · iexact Ha
  isplitl [Hp]; · iexact Hp
  isplitl [Hr]; · iexact Hr
  iexact HO

theorem post0 (c : Dev nD) : (R0 m).post c ⊢ iprop(StableHlo.held (c : Thread nD τ) (Pipeline.ucRefs τ sig) (V1 m (outs m) c) ∗ E 1 c) := by
  rw [V1_eq]
  show iprop(StableHlo.held (c : Thread nD τ) (Pipeline.arrRefs (τ := τ) spec0) (after0 m c) ∗ (∃ r, prngReg c r)
    ∗ StableHlo.held (c : Thread nD τ) ((Pipeline.ucRefs τ sig) \ Pipeline.arrRefs (τ := τ) spec0) (V0 m c) ∗ ∃ W, owes (c : Thread nD τ) 0 W) ⊢ _
  rw [StableHlo.held_sub_split (c : Thread nD τ) arr0_S (after0 m c),
    StableHlo.held_congr (c : Thread nD τ) (S := (Pipeline.ucRefs τ sig) \ Pipeline.arrRefs (τ := τ) spec0) (rest0_eq m c)]
  unfold E
  iintro ⟨Ha, Hp, Hr, HO⟩
  isplitl [Ha Hr]; · isplitl [Ha] <;> iassumption
  isplitl [Hp]; · iexact Hp
  iexact HO

/-! ## The second region's record -/

theorem pdats_one (c : Dev nD) : pdats m 1 c = dat1 m c := by rw [dat1, ← Ve1_eq]; rfl
theorem out1_5 (c : Dev nD) : outs m 2 main_v1_0 c = (pdats m 1 c).arrAt 5 cfg1.N :=
  ((outs_2 m c main_v1_0).trans (at_v1_0 m c)).trans (congrArg (fun d : Dat τ (Elt F) Unit ℕ (UR sig nD τ) ℕ cfg1 c => d.arrAt 5 cfg1.N) (pdats_one m c).symm)
theorem out1_6 (c : Dev nD) : outs m 2 main_v1_1 c = (pdats m 1 c).arrAt 6 cfg1.N :=
  ((outs_2 m c main_v1_1).trans (at_v1_1 m c)).trans (congrArg (fun d : Dat τ (Elt F) Unit ℕ (UR sig nD τ) ℕ cfg1 c => d.arrAt 6 cfg1.N) (pdats_one m c).symm)

/-- The second region's record, with nothing riding beside the generated one's own. -/
abbrev R1 : RegionSeg (pcfgs (F := F)) adm (pdats m) () defs₀ 𝒱₀ L lv 1 :=
  Own.R1D m (outs m) 𝒱₀ L lv () (base m) (fun _ => 0) (fun _ => 0) (cut 1) (fun _ => iprop(emp)) (out1_5 m) (out1_6 m)

theorem pre1 (c : Dev nD) : iprop(StableHlo.held (c : Thread nD τ) (Pipeline.ucRefs τ sig) (V1 m (outs m) c) ∗ E 1 c) ⊢ (R1 m).pre c :=
  Own.hpre1D m (outs m) 𝒱₀ L lv () (base m) (fun _ => 0) (fun _ => 0) (cut 1) E (fun _ => iprop(emp))
    (fun c => by
      unfold E; iintro ⟨Hp, HO⟩
      isplitl [Hp]; · iexact Hp
      isplitl [HO]; · iexact HO
      iempintro) (out1_5 m) (out1_6 m) c

theorem post1 (c : Dev nD) : (R1 m).post c ⊢ iprop(StableHlo.held (c : Thread nD τ) (Pipeline.ucRefs τ sig) (V2 m (outs m) c) ∗ E 2 c) :=
  Own.hpost1D m (outs m) 𝒱₀ L lv () (base m) (fun _ => 0) (fun _ => 0) (cut 1) E (fun _ => iprop(emp))
    (fun c => by
      unfold E; iintro ⟨Hp, HO, -⟩
      isplitl [Hp]; · iexact Hp
      iexact HO) (out1_5 m) (out1_6 m) c

/-! ## The launch and the end -/

/-- The launch's tokens give the pipelines' rounds. -/
theorem tokens : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

-- the launch's conclusion is found by unifying with this one, which takes unfolding plain definitions in a metavariable's type
set_option backward.isDefEq.respectTransparency.types false in
/-- Every weakly fair execution stops with each lasting buffer at `after1` and no semaphore raised. -/
theorem run : θ_run defs (onTc (τ := τ) (main (F := F))) ⟨m, fun _ => 0, ρ⟩ (fun r =>
    (∀ c : Dev nD, ∀ b ∈ Pipeline.ucRefs τ sig, r.2.mem (((c : Thread nD τ).1, b) : Loc nD τ sig) = after1 m c b)
      ∧ r.2.sem = fun _ => 0) := by
  refine Pipeline.θ_run_regions_kit_dev_sems (pcfgs (F := F)) adm (pdats m) () cellOf_inj emb₁ defs₀ 𝒱₀ L lv m ρ main
    (segs 𝒱₀ L lv E () (pdats m) (R0 m) (R1 m))
    (fun c Q => by
      rewrite [main_chain c, Seg.run_eq_chain,
        show (segs 𝒱₀ L lv E () (pdats m) (R0 m) (R1 m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => if_neg h) (fun _ => iprop(emp))
    (initOf (Pipeline.cells cfgs cellOf_inj) (Pipeline.launchToks cfgs cellOf_inj)) tokens
    (T₀ := fun c => iprop(StableHlo.held (c : Thread nD τ) (Pipeline.ucRefs τ sig) (V0 m c) ∗ E 0 c))
    (Tₙ := fun c => StableHlo.held (c : Thread nD τ) (Pipeline.ucRefs τ sig) (V2 m (outs m) c))
    (hch := fun c => ⟨pre0 m c, (post0 m c).trans (pre1 m c), (post1 m c).trans (sep_mono .rfl (by unfold E; iintro ⟨-, H⟩; iexact H))⟩)
    (hinit := ?_) (QY := fun c s => ∀ b ∈ Pipeline.ucRefs τ sig, s.mem (((c : Thread nD τ).1, b) : Loc nD τ sig) = after1 m c b)
    (hfin := fun c s' => ?_) (hQ := fun _ h hz => ⟨h, funext fun g => hz g (.inr (regions_no_unscoped g.2))⟩)
  · -- the launch: each core's lasting buffers, its register, and nothing owed
    refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    unfold E
    iintro ⟨⟨Hh, -, HO, -, Hp, -⟩, -⟩
    imodintro
    isplitl [Hh]; · iexact Hh
    isplitl [Hp]; · iexists _; iexact Hp
    iexists ∅; iexact HO
  · -- the end: every lasting buffer read off the last contents
    rw [V2_eq]
    unfold StableHlo.held
    iintro ⟨Hh, HSI⟩
    ihave Hr := (pointsTo_read_all (Pipeline.ucRefs τ sig) (fun b => ((c : Thread nD τ).1, b)) (after1 m c) s') $$ [Hh HSI]
    · isplitl [Hh] <;> iassumption
    icases Hr with ⟨%h, HSI⟩
    imodintro
    isplitr
    · ipureintro; exact h
    · iexact HSI

/-- Each buffer that no region writes ends as launched. -/
theorem kept (c : Dev nD) (r : Ref sig .tc) (h1 : r ∉ ([main_v0_0, main_v0_1, main_v0_2, main_v0_3, main_v0_4] : List (Ref sig .tc)))
    (h2 : r ∉ ([main_v1_0, main_v1_1] : List (Ref sig .tc))) : after1 m c (Proc.devRef .tc r) = m ((c : Thread nD τ).loc r) :=
  (congrFun (V2_eq m c) _).symm.trans ((V2_of m (outs m) c r h2).trans (V1_of m (outs m) c r h1))

end Cert.KernelIdeal.Run

end
-- ==== Proof.Spec.lean ====
/-
  The mathematics of the problem, stated over plain functions of row and column numbers with values
  in the extended reals, and the one fact the claim turns on: dividing a vector by a positive number
  before it is normalised does not change the normalised vector, provided the norm is zero or
  neither norm falls under the guard `eps`.
-/
module

public import Idealize.ShloMosaic.PureOps.Ideal
public import Mathlib.Data.EReal.Inv

@[expose] public section

namespace Cert.Spec
open Idealize.ShloMosaic

/-- Features after the weight matrix: row `k` of `f` against column `j` of `w`. -/
noncomputable def prod (f : Fin 10000 → Fin 128 → EReal) (w : Fin 128 → Fin 128 → EReal) (k : Fin 10000) (j : Fin 128) : EReal :=
  ∑ l, f k l * w l j

/-- The aggregate over the graph. -/
noncomputable def hid (f : Fin 10000 → Fin 128 → EReal) (w : Fin 128 → Fin 128 → EReal) (a : Fin 10000 → Fin 10000 → EReal)
    (r : Fin 10000) (j : Fin 128) : EReal :=
  ∑ k, a r k * prod f w k j

/-- The embedding: the positive part of the aggregate. -/
noncomputable def emb (f : Fin 10000 → Fin 128 → EReal) (w : Fin 128 → Fin 128 → EReal) (a : Fin 10000 → Fin 10000 → EReal)
    (r : Fin 10000) (j : Fin 128) : EReal :=
  max (hid f w a r j) 0

/-- The sum of the neighbours' embeddings. -/
noncomputable def vsum (e : Fin 10000 → Fin 128 → EReal) (a : Fin 10000 → Fin 10000 → EReal) (r : Fin 10000) (j : Fin 128) : EReal :=
  ∑ k, a r k * e k j

/-- A row of the graph summed. -/
noncomputable def deg (a : Fin 10000 → Fin 10000 → EReal) (r : Fin 10000) : EReal := ∑ k, a r k

/-- The Euclidean norm. -/
noncomputable def norm (v : Fin 128 → EReal) : EReal := Ideal.sqrt (∑ j, v j * v j)

/-- The guard under the norm, the constant `1e-12` as the programs hold it. -/
noncomputable def eps : EReal := Ideal.ofBits .f32 0x2B8CBCCC#32

/-- The vector over its norm, the norm held at `eps` or more. -/
noncomputable def unit (v : Fin 128 → EReal) (j : Fin 128) : EReal := Ideal.div (v j) (max (norm v) eps)

/-- The readout. -/
noncomputable def gate (v : Fin 128 → EReal) (j : Fin 128) : EReal := Ideal.logistic (unit v j)

/-- The bilinear score of a row against a readout, with the bias. -/
noncomputable def score (e : Fin 128 → EReal) (d : Fin 128 → Fin 128 → EReal) (g : Fin 128 → EReal) (b : EReal) : EReal :=
  (∑ j, (∑ l, e l * d l j) * g j) + b

/-- The mean over the neighbours: the sum over the row's sum. -/
noncomputable def mean (v : Fin 128 → EReal) (s : EReal) (j : Fin 128) : EReal := Ideal.div (v j) s

/-- The rows on which the guard plays no part. -/
def unclipped (v : Fin 128 → EReal) (s : EReal) : Prop :=
  0 < s ∧ (norm v = 0 ∨ (eps ≤ norm v ∧ eps ≤ norm (mean v s)))

end Cert.Spec
-- ==== Proof.KernelIdeal.Pay.lean ====
/-
  What the payloads of the two kernel bodies hold at one index, over the extended reals: sums of
  products, maxima and the readout of Spec.lean.
-/
module

public import proofs.«01_k».proof.Proof.Gen.KernelIdeal.Skeleton
public import proofs.«01_k».proof.Proof.Spec
public import Idealize.ShloMosaic.Lib.Pointwise

@[expose] public section

namespace Cert.KernelIdeal.Pay
open Idealize.ShloMosaic
open Cert.KernelIdeal Cert.KernelIdeal.Gen

/-- Column `j` among the first 128 of 256. -/
def lo (j : Fin 128) : Fin 256 := ⟨j.val, by omega⟩

/-- Column `j` among the last 128 of 256. -/
def hi (j : Fin 128) : Fin 256 := ⟨128 + j.val, by omega⟩

theorem pay2_apply (w : Vec Ideal S128x128 .f32) (f : Vec Ideal S10000x128 .f32) (k : Fin 10000) (j : Fin 128) :
    k0_pay2 w f (ix2 k j) = ∑ l : Fin 128, f (ix2 k l) * w (ix2 l j) := by
  pointwise [k0_pay2, k0_pay1]

theorem pay3_apply (w : Vec Ideal S128x128 .f32) (f : Vec Ideal S10000x128 .f32) (k : Fin 10000) (j : Fin 128) :
    k0_pay3 w f (ix2 k j) = ∑ l : Fin 128, f (ix2 k l) * w (ix2 l j) := by
  pointwise [k0_pay3, k0_pay1]

theorem pay4_apply (a : Vec Ideal S400x10000 .f32) (z : Vec Ideal S10000x256 .bf16) (r : Fin 400) (j : Fin 256) :
    k0_pay4 a z (ix2 r j) = ∑ k : Fin 10000, a (ix2 r k) * z (ix2 k j) := by
  pointwise [k0_pay4]

theorem pay5_apply (a : Vec Ideal S400x10000 .f32) (z : Vec Ideal S10000x256 .bf16) (r : Fin 400) (j : Fin 128) :
    k0_pay5 a z (ix2 r j) = ∑ k : Fin 10000, a (ix2 r k) * z (ix2 k (lo j)) := by
  pointwise [k0_pay5, k0_pay4, lo]

theorem pay6_apply (a : Vec Ideal S400x10000 .f32) (z : Vec Ideal S10000x256 .bf16) (r : Fin 400) (j : Fin 256) :
    k0_pay6 a z (ix2 r j) = max (∑ k : Fin 10000, a (ix2 r k) * z (ix2 k j)) 0 := by
  pointwise [k0_pay6, k0_pay4]

theorem pay7_apply (a : Vec Ideal S400x10000 .f32) (z : Vec Ideal S10000x256 .bf16) (r : Fin 400) (j : Fin 128) :
    k0_pay7 a z (ix2 r j) = max (∑ k : Fin 10000, a (ix2 r k) * z (ix2 k (lo j))) 0 := by
  pointwise [k0_pay7, k0_pay6, k0_pay4, lo]

theorem pay8_apply (a : Vec Ideal S400x10000 .f32) (z : Vec Ideal S10000x256 .bf16) (r : Fin 400) (j : Fin 256) :
    k0_pay8 a z (ix2 r j) = max (∑ k : Fin 10000, a (ix2 r k) * z (ix2 k j)) 0 := by
  pointwise [k0_pay8, k0_pay6, k0_pay4]

theorem pay9_apply (a : Vec Ideal S400x10000 .f32) (z : Vec Ideal S10000x256 .bf16) (r : Fin 400) (j : Fin 256) :
    k0_pay9 a z (ix2 r j) = max (∑ k : Fin 10000, a (ix2 r k) * z (ix2 k j)) 0 := by
  pointwise [k0_pay9, k0_pay6, k0_pay4]

theorem pay10_apply (a : Vec Ideal S400x10000 .f32) (r : Fin 400) (k : Fin 10000) :
    k0_pay10 a (ix2 r k) = a (ix2 r k) := by
  pointwise [k0_pay10]

/-- The readout from the first half of the columns. -/
theorem gate_lo (a : Vec Ideal S1000x10000 .fp8e4m3) (e : Vec Ideal S10000x256 .fp8e4m3) (r : Fin 1000) (j : Fin 128) :
    k1_pay4 a e (ix2 r j) = Spec.gate (fun j => ∑ k : Fin 10000, a (ix2 r k) * e (ix2 k (lo j))) j := by
  pointwise [k1_pay4, k1_pay3, Spec.gate, Spec.unit, Spec.norm, Spec.eps, lo]

/-- The readout from the second half of the columns. -/
theorem gate_hi (a : Vec Ideal S1000x10000 .fp8e4m3) (e : Vec Ideal S10000x256 .fp8e4m3) (r : Fin 1000) (j : Fin 128) :
    k1_pay5 a e (ix2 r j) = Spec.gate (fun j => ∑ k : Fin 10000, a (ix2 r k) * e (ix2 k (hi j))) j := by
  pointwise [k1_pay5, k1_pay3, Spec.gate, Spec.unit, Spec.norm, Spec.eps, hi]

theorem proj_lo (w : Vec Ideal S1x128x128 .f32) (e : Vec Ideal S1000x256 .bf16) (r : Fin 1000) (j : Fin 128) :
    k1_pay8 w e (ix2 r j) = ∑ l : Fin 128, e (ix2 r (lo l)) * w (ix3 0 l j) := by
  pointwise [k1_pay8, k1_pay7, k1_pay6, lo]

theorem proj_hi (w : Vec Ideal S1x128x128 .f32) (e : Vec Ideal S1000x256 .bf16) (r : Fin 1000) (j : Fin 128) :
    k1_pay9 w e (ix2 r j) = ∑ l : Fin 128, e (ix2 r (hi l)) * w (ix3 0 l j) := by
  pointwise [k1_pay9, k1_pay7, k1_pay6, hi]

/-- The first output's columns: the scores of the two embeddings against the first readout. -/
theorem out_lo_0 (b : EReal) (a : Vec Ideal S1000x10000 .fp8e4m3) (e8 : Vec Ideal S10000x256 .fp8e4m3)
    (w : Vec Ideal S1x128x128 .f32) (e : Vec Ideal S1000x256 .bf16) (r : Fin 1000) :
    k1_pay1 (F := Ideal) b (k1_pay10 a e8 w e) (k1_pay11 a e8 w e) (ix2 r 0)
      = Spec.score (fun l => e (ix2 r (lo l))) (fun l j => w (ix3 0 l j))
          (Spec.gate (fun j => ∑ k : Fin 10000, a (ix2 r k) * e8 (ix2 k (lo j)))) b := by
  pointwise [k1_pay1, k1_pay10, Spec.score, proj_lo, gate_lo]

theorem out_lo_1 (b : EReal) (a : Vec Ideal S1000x10000 .fp8e4m3) (e8 : Vec Ideal S10000x256 .fp8e4m3)
    (w : Vec Ideal S1x128x128 .f32) (e : Vec Ideal S1000x256 .bf16) (r : Fin 1000) :
    k1_pay1 (F := Ideal) b (k1_pay10 a e8 w e) (k1_pay11 a e8 w e) (ix2 r 1)
      = Spec.score (fun l => e (ix2 r (hi l))) (fun l j => w (ix3 0 l j))
          (Spec.gate (fun j => ∑ k : Fin 10000, a (ix2 r k) * e8 (ix2 k (lo j)))) b := by
  pointwise [k1_pay1, k1_pay11, Spec.score, proj_hi, gate_lo]

/-- The second output's columns: the scores of the two embeddings against the second readout. -/
theorem out_hi_0 (b : EReal) (a : Vec Ideal S1000x10000 .fp8e4m3) (e8 : Vec Ideal S10000x256 .fp8e4m3)
    (w : Vec Ideal S1x128x128 .f32) (e : Vec Ideal S1000x256 .bf16) (r : Fin 1000) :
    k1_pay2 (F := Ideal) b (k1_pay5 a e8) (k1_pay8 w e) (k1_pay9 w e) (ix2 r 0)
      = Spec.score (fun l => e (ix2 r (hi l))) (fun l j => w (ix3 0 l j))
          (Spec.gate (fun j => ∑ k : Fin 10000, a (ix2 r k) * e8 (ix2 k (hi j)))) b := by
  pointwise [k1_pay2, Spec.score, proj_hi, gate_hi]

theorem out_hi_1 (b : EReal) (a : Vec Ideal S1000x10000 .fp8e4m3) (e8 : Vec Ideal S10000x256 .fp8e4m3)
    (w : Vec Ideal S1x128x128 .f32) (e : Vec Ideal S1000x256 .bf16) (r : Fin 1000) :
    k1_pay2 (F := Ideal) b (k1_pay5 a e8) (k1_pay8 w e) (k1_pay9 w e) (ix2 r 1)
      = Spec.score (fun l => e (ix2 r (lo l))) (fun l j => w (ix3 0 l j))
          (Spec.gate (fun j => ∑ k : Fin 10000, a (ix2 r k) * e8 (ix2 k (hi j)))) b := by
  pointwise [k1_pay2, Spec.score, proj_lo, gate_hi]

end Cert.KernelIdeal.Pay
-- ==== Proof.KernelIdeal.Arrays0.lean ====
/-
  The arrays the first pass leaves, in closed form over the extended reals: the aggregate and the
  embedding of the first features, the embeddings of both features side by side, and the graph.
-/
module

public import proofs.«01_k».proof.Proof.KernelIdeal.Pass1
public import proofs.«01_k».proof.Proof.KernelIdeal.Pay
public import Idealize.ShloMosaic.Lib.Pipeline.ValueKit
public import Idealize.ShloMosaic.Lib.Writes

@[expose] public section

set_option maxRecDepth 16384

noncomputable section

namespace Cert.KernelIdeal.Pass1

open Cert.KernelIdeal Cert.KernelIdeal.Gen Cert.KernelIdeal.Pay
open Idealize.ShloMosaic Idealize.ShloMosaic.TcCoe Idealize.ShloMosaic.Tactic
open Idealize.SL Idealize.SL.RA Idealize.SL.BI
open Idealize.ShloMosaic.Pipeline (Dat Cfg Window)

/-! ## The blocks' places -/

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val - 1, 0] := (by decide +kernel : ∀ t : Fin grid0.N, _)
theorem idx_4 : ∀ t : Fin cfg0.N, win0_4.index t = ![t.val - 1, 0] := (by decide +kernel : ∀ t : Fin grid0.N, _)
theorem idx_5 : ∀ t : Fin cfg0.N, win0_5.index t = ![t.val - 1, 0] := (by decide +kernel : ∀ t : Fin grid0.N, _)
theorem idx_6 : ∀ t : Fin cfg0.N, win0_6.index t = ![t.val - 1, 0] := (by decide +kernel : ∀ t : Fin grid0.N, _)
theorem idx_7 : ∀ t : Fin cfg0.N, win0_7.index t = ![t.val - 1, 0] := (by decide +kernel : ∀ t : Fin grid0.N, _)
theorem idx_8 : ∀ t : Fin cfg0.N, win0_8.index t = ![t.val - 1, 0] := (by decide +kernel : ∀ t : Fin grid0.N, _)

/-! ## The scratch buffer -/

theorem feats_lo (x0 x1 : Vec Ideal S10000x128 .f32) (x2 : Vec Ideal S128x128 .f32) (k : Fin 10000) (j : Fin 128) :
    feats x0 x1 x2 (ix2 k (lo j)) = ∑ l : Fin 128, x0 (ix2 k l) * x2 (ix2 l j) := by
  unfold feats
  rw [View.read_writes_cons_miss_of_axis _ _ _ _ (ix2 k (lo j)) 1 128 128 rfl rfl rfl (Or.inl j.isLt)]
  rw [View.read_writes_cons_hit_of_coords _ _ _ _ _ (ix2 k j) (ix2 k (lo j)) (by
    intro a; fin_cases a
    · show k.val = 0 + 1 * k.val; omega
    · show j.val = 0 + 1 * j.val; omega)]
  exact pay2_apply x2 x0 k j

theorem feats_hi (x0 x1 : Vec Ideal S10000x128 .f32) (x2 : Vec Ideal S128x128 .f32) (k : Fin 10000) (j : Fin 128) :
    feats x0 x1 x2 (ix2 k (hi j)) = ∑ l : Fin 128, x1 (ix2 k l) * x2 (ix2 l j) := by
  unfold feats
  rw [View.read_writes_cons_hit_of_coords _ _ _ _ _ (ix2 k j) (ix2 k (hi j)) (by
    intro a; fin_cases a
    · show k.val = 0 + 1 * k.val; omega
    · show 128 + j.val = 128 + 1 * j.val; omega)]
  exact pay3_apply x2 x1 k j

/-! ## The arrays -/

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- An array of two axes as a function of its row and its column. -/
def at2 {n0 n1 : ℕ} (v : Vec Ideal ⟨2, ![n0, n1]⟩ .f32) (r : Fin n0) (j : Fin n1) : EReal := v (ix2 r j)

theorem z_lo (c : Dev nD) (k : Fin 10000) (j : Fin 128) :
    z V c (ix2 k (lo j)) = Spec.prod (at2 (V c main_arg0)) (at2 (V c main_arg3)) k j := by
  unfold z Spec.prod at2
  rw [feats_lo]
  refine Finset.sum_congr rfl fun l _ => ?_
  congr 1
  · blk_simp [iblk]
    congr 1
    blk_ext [idx_0]
  · blk_simp [iblk]
    congr 1
    blk_ext [idx_2]

theorem z_hi (c : Dev nD) (k : Fin 10000) (j : Fin 128) :
    z V c (ix2 k (hi j)) = Spec.prod (at2 (V c main_arg1)) (at2 (V c main_arg3)) k j := by
  unfold z Spec.prod at2
  rw [feats_hi]
  refine Finset.sum_congr rfl fun l _ => ?_
  congr 1
  · blk_simp [iblk]
    congr 1
    blk_ext [idx_1]
  · blk_simp [iblk]
    congr 1
    blk_ext [idx_2]

/-- The row of the whole array that row `r` of point `t`'s block is. -/
def row (t : Fin cfg0.N) (r : Fin 400) : Fin 10000 :=
  ⟨(t.val - 1) * 400 + r.val, by have := t.isLt; have h : cfg0.N = 26 := rfl; omega⟩

/-- The graph's block at point `t`. -/
def adjBlk (c : Dev nD) (t : Fin cfg0.N) : Vec Ideal S400x10000 .f32 := iblk V c 3 t

theorem adj_blk (c : Dev nD) (t : Fin cfg0.N) (r : Fin 400) (k : Fin 10000) :
    adjBlk V c t (ix2 r k) = at2 (V c main_arg2) (row t r) k := by
  unfold at2 adjBlk
  blk_simp [iblk]
  congr 1
  blk_ext [idx_3, row]

/-- The aggregate of the first features, at the block's rows. -/
theorem sum_lo (c : Dev nD) (t : Fin cfg0.N) (r : Fin 400) (j : Fin 128) :
    ∑ k : Fin 10000, adjBlk V c t (ix2 r k) * z V c (ix2 k (lo j))
      = Spec.hid (at2 (V c main_arg0)) (at2 (V c main_arg3)) (at2 (V c main_arg2)) (row t r) j := by
  unfold Spec.hid
  exact Finset.sum_congr rfl fun k _ => by rw [adj_blk, z_lo]

/-- The aggregate of the second features, at the block's rows. -/
theorem sum_hi (c : Dev nD) (t : Fin cfg0.N) (r : Fin 400) (j : Fin 128) :
    ∑ k : Fin 10000, adjBlk V c t (ix2 r k) * z V c (ix2 k (hi j))
      = Spec.hid (at2 (V c main_arg1)) (at2 (V c main_arg3)) (at2 (V c main_arg2)) (row t r) j := by
  unfold Spec.hid
  exact Finset.sum_congr rfl fun k _ => by rw [adj_blk, z_hi]

/-- The embeddings of the two features side by side. -/
def both (f f' : Fin 10000 → Fin 128 → EReal) (w : Fin 128 → Fin 128 → EReal) (a : Fin 10000 → Fin 10000 → EReal)
    (r : Fin 10000) (j : Fin 256) : EReal :=
  if h : j.val < 128 then Spec.emb f w a r ⟨j.val, h⟩ else Spec.emb f' w a r ⟨j.val - 128, by omega⟩

theorem both_lo (f f' w a) (r : Fin 10000) (j : Fin 128) : both f f' w a r (lo j) = Spec.emb f w a r j := by
  unfold both lo
  rw [dif_pos j.isLt]

theorem both_hi (f f' w a) (r : Fin 10000) (j : Fin 128) : both f f' w a r (hi j) = Spec.emb f' w a r j := by
  unfold both hi
  rw [dif_neg (by simp)]
  congr 1
  exact Fin.ext (by simp)

theorem sum_both (c : Dev nD) (t : Fin cfg0.N) (r : Fin 400) (j : Fin 256) :
    max (∑ k : Fin 10000, adjBlk V c t (ix2 r k) * z V c (ix2 k j)) 0
      = both (at2 (V c main_arg0)) (at2 (V c main_arg1)) (at2 (V c main_arg3)) (at2 (V c main_arg2)) (row t r) j := by
  unfold both
  split
  · rename_i h
    exact congrArg (max · 0) (sum_lo V c t r ⟨j.val, h⟩)
  · rename_i h
    have hj : j = hi ⟨j.val - 128, by omega⟩ := Fin.ext (by simp only [hi]; omega)
    exact (congrArg (fun j => max (∑ k : Fin 10000, adjBlk V c t (ix2 r k) * z V c (ix2 k j)) 0) hj).trans
      (congrArg (max · 0) (sum_hi V c t r ⟨j.val - 128, by omega⟩))

local notation "𝕕" => dat (Ix := Ix) (U := U) (Lvl := Lvl) V D

/-- The aggregate of the first features. -/
theorem arr_4 (c : Dev nD) : (𝕕 c).arrAt 4 cfg0.N
    = fun i : S10000x128.Idx => Spec.hid (at2 (V c main_arg0)) (at2 (V c main_arg3)) (at2 (V c main_arg2)) (i 0) (i 1) := by
  refine (𝕕 c).arrAt_eq_of_covers 4 _ (by decide +kernel) fun t hf y => ?_
  blk_simp
  rw [after_4]
  have h0 : (win0_4.blk t).view.emb y 0 = row t (y 0) := Fin.ext (by blk_simp [idx_4, row])
  have h1 : (win0_4.blk t).view.emb y 1 = y 1 := Fin.ext (by blk_simp [idx_4])
  refine (congrArg _ (eq_ix2 y)).trans ((pay5_apply _ _ _ _).trans ((sum_lo V c t (y 0) (y 1)).trans ?_))
  rw [h0, h1]

/-- The embedding of the first features. -/
theorem arr_5 (c : Dev nD) : (𝕕 c).arrAt 5 cfg0.N
    = fun i : S10000x128.Idx => Spec.emb (at2 (V c main_arg0)) (at2 (V c main_arg3)) (at2 (V c main_arg2)) (i 0) (i 1) := by
  refine (𝕕 c).arrAt_eq_of_covers 5 _ (by decide +kernel) fun t hf y => ?_
  blk_simp
  rw [after_5]
  have h0 : (win0_5.blk t).view.emb y 0 = row t (y 0) := Fin.ext (by blk_simp [idx_5, row])
  have h1 : (win0_5.blk t).view.emb y 1 = y 1 := Fin.ext (by blk_simp [idx_5])
  refine (congrArg _ (eq_ix2 y)).trans ((pay7_apply _ _ _ _).trans ((congrArg (max · 0) (sum_lo V c t (y 0) (y 1))).trans ?_))
  rw [h0, h1]; rfl

/-- Both embeddings side by side, in the format the scores read. -/
theorem arr_6 (c : Dev nD) : (𝕕 c).arrAt 6 cfg0.N
    = fun i : S10000x256.Idx => both (at2 (V c main_arg0)) (at2 (V c main_arg1)) (at2 (V c main_arg3)) (at2 (V c main_arg2)) (i 0) (i 1) := by
  refine (𝕕 c).arrAt_eq_of_covers 6 _ (by decide +kernel) fun t hf y => ?_
  blk_simp
  rw [after_6]
  have h0 : (win0_6.blk t).view.emb y 0 = row t (y 0) := Fin.ext (by blk_simp [idx_6, row])
  have h1 : (win0_6.blk t).view.emb y 1 = y 1 := Fin.ext (by blk_simp [idx_6])
  refine (congrArg _ (eq_ix2 y)).trans ((pay8_apply _ _ _ _).trans ((sum_both V c t (y 0) (y 1)).trans ?_))
  rw [h0, h1]

/-- Both embeddings side by side, in the format the readouts read. -/
theorem arr_7 (c : Dev nD) : (𝕕 c).arrAt 7 cfg0.N
    = fun i : S10000x256.Idx => both (at2 (V c main_arg0)) (at2 (V c main_arg1)) (at2 (V c main_arg3)) (at2 (V c main_arg2)) (i 0) (i 1) := by
  refine (𝕕 c).arrAt_eq_of_covers 7 _ (by decide +kernel) fun t hf y => ?_
  blk_simp
  rw [after_7]
  have h0 : (win0_7.blk t).view.emb y 0 = row t (y 0) := Fin.ext (by blk_simp [idx_7, row])
  have h1 : (win0_7.blk t).view.emb y 1 = y 1 := Fin.ext (by blk_simp [idx_7])
  refine (congrArg _ (eq_ix2 y)).trans ((pay9_apply _ _ _ _).trans ((sum_both V c t (y 0) (y 1)).trans ?_))
  rw [h0, h1]

/-- The graph. -/
theorem arr_8 (c : Dev nD) : (𝕕 c).arrAt 8 cfg0.N
    = fun i : S10000x10000.Idx => at2 (V c main_arg2) (i 0) (i 1) := by
  refine (𝕕 c).arrAt_eq_of_covers 8 _ (by decide +kernel) fun t hf y => ?_
  blk_simp
  rw [after_8]
  have h0 : (win0_8.blk t).view.emb y 0 = row t (y 0) := Fin.ext (by blk_simp [idx_8, row])
  have h1 : (win0_8.blk t).view.emb y 1 = y 1 := Fin.ext (by blk_simp [idx_8])
  refine (congrArg _ (eq_ix2 y)).trans ((pay10_apply _ _ _).trans ((adj_blk V c t (y 0) (y 1)).trans ?_))
  rw [h0, h1]

end Cert.KernelIdeal.Pass1
-- ==== Proof.KernelIdeal.Arrays1.lean ====
/-
  The arrays the second pass leaves, in closed form over the extended reals, in terms of the arrays
  it reads: the embeddings' scores against the two readouts.
-/
module

public import proofs.«01_k».proof.Proof.Gen.Own.KernelIdeal.K1.Frame
public import proofs.«01_k».proof.Proof.KernelIdeal.Pay
public import Idealize.ShloMosaic.Lib.Pipeline.ValueKit

@[expose] public section

set_option maxRecDepth 16384

noncomputable section

namespace Cert.KernelIdeal.Pass2

open Cert.KernelIdeal Cert.KernelIdeal.Gen Cert.KernelIdeal.Pay
open Idealize.ShloMosaic Idealize.ShloMosaic.TcCoe Idealize.ShloMosaic.Tactic
open Idealize.SL Idealize.SL.RA Idealize.SL.BI
open Idealize.ShloMosaic.Pipeline (Dat Cfg Window)
open Own.K1

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-! ## The blocks' places -/

theorem idx_0 : ∀ t : Fin cfg1.N, win1_0.index t = ![t.val, 0] := (by decide +kernel : ∀ t : Fin grid1.N, _)
theorem idx_1 : ∀ t : Fin cfg1.N, win1_1.index t = ![0, 0] := (by decide +kernel : ∀ t : Fin grid1.N, _)
theorem idx_2 : ∀ t : Fin cfg1.N, win1_2.index t = ![0, 0] := (by decide +kernel : ∀ t : Fin grid1.N, _)
theorem idx_3 : ∀ t : Fin cfg1.N, win1_3.index t = ![0, 0, 0] := (by decide +kernel : ∀ t : Fin grid1.N, _)
theorem idx_4 : ∀ t : Fin cfg1.N, win1_4.index t = ![0] := (by decide +kernel : ∀ t : Fin grid1.N, _)
theorem idx_5 : ∀ t : Fin cfg1.N, win1_5.index t = ![t.val, 0] := (by decide +kernel : ∀ t : Fin grid1.N, _)
theorem idx_6 : ∀ t : Fin cfg1.N, win1_6.index t = ![t.val, 0] := (by decide +kernel : ∀ t : Fin grid1.N, _)
theorem off_eq : ∀ t : Fin cfg1.N, k1_off1 (grid1.coords t) = ![t.val * 1000, 0] := (by decide +kernel : ∀ t : Fin grid1.N, _)

/-- The row of the whole array that row `r` of point `t`'s block is. -/
def row (t : Fin cfg1.N) (r : Fin 1000) : Fin 10000 :=
  ⟨t.val * 1000 + r.val, by have := t.isLt; have h : cfg1.N = 10 := rfl; omega⟩

/-! ## The blocks -/

/-- The graph's block at point `t`. -/
def adjBlk (c : Dev nD) (t : Fin cfg1.N) : Vec Ideal S1000x10000 .fp8e4m3 := iblk V c 0 t
/-- The embeddings the readouts read. -/
def e8Blk (c : Dev nD) (t : Fin cfg1.N) : Vec Ideal S10000x256 .fp8e4m3 := iblk V c 2 t
/-- The bilinear form's matrix. -/
def wBlk (c : Dev nD) (t : Fin cfg1.N) : Vec Ideal S1x128x128 .f32 := iblk V c 3 t
/-- The bias. -/
def bBlk (c : Dev nD) (t : Fin cfg1.N) : EReal :=
  View.ld (iblk V c 4 t) (Rect.unit ![0] ![1] inb_S1_S1_0) (Shape.Idx.first (by show 0 < (⟨1, ![1]⟩ : Shape).numel; decide))
/-- The point's rows of the embeddings that are scored. -/
def eBlk (c : Dev nD) (t : Fin cfg1.N) : Vec Ideal S1000x256 .bf16 :=
  View.ld (iblk V c 1 t) (Rect.unit (k1_off1 (grid1.coords t)) ![1000, 256] (k1_off1_inb (grid1.coords t)))

/-- The arrays read, as functions of row and column. -/
def adjF (c : Dev nD) (r k : Fin 10000) : EReal := V c main_v0_4 (ix2 r k)
def e8F (c : Dev nD) (k : Fin 10000) (j : Fin 256) : EReal := V c main_v0_3 (ix2 k j)
def eF (c : Dev nD) (k : Fin 10000) (j : Fin 256) : EReal := V c main_v0_2 (ix2 k j)
def wF (c : Dev nD) (l j : Fin 128) : EReal := V c main_arg5 (ix3 0 l j)
def bF (c : Dev nD) : EReal := V c main_arg6 (ix1 0)

theorem adjBlk_apply (c : Dev nD) (t : Fin cfg1.N) (r : Fin 1000) (k : Fin 10000) : adjBlk V c t (ix2 r k) = adjF V c (row t r) k := by
  unfold adjBlk adjF
  blk_simp [iblk]
  congr 1
  blk_ext [idx_0, row]
theorem e8Blk_apply (c : Dev nD) (t : Fin cfg1.N) (k : Fin 10000) (j : Fin 256) : e8Blk V c t (ix2 k j) = e8F V c k j := by
  unfold e8Blk e8F
  blk_simp [iblk]
  congr 1
  blk_ext [idx_2]
theorem wBlk_apply (c : Dev nD) (t : Fin cfg1.N) (l j : Fin 128) : wBlk V c t (ix3 0 l j) = wF V c l j := by
  unfold wBlk wF
  blk_simp [iblk]
  congr 1
  blk_ext [idx_3]
theorem bBlk_eq (c : Dev nD) (t : Fin cfg1.N) : bBlk V c t = bF V c := by
  unfold bBlk bF View.ld
  blk_simp [iblk]
  congr 1
  blk_ext [idx_4]
theorem eBlk_apply (c : Dev nD) (t : Fin cfg1.N) (r : Fin 1000) (j : Fin 256) : eBlk V c t (ix2 r j) = eF V c (row t r) j := by
  unfold eBlk eF View.ld
  blk_simp [iblk]
  congr 1
  blk_ext [idx_1, row]
  · show k1_off1 (grid1.coords t) 0 + 1 * r.val = t.val * 1000 + r.val
    rw [off_eq]
    show t.val * 1000 + 1 * r.val = t.val * 1000 + r.val
    omega
  · show k1_off1 (grid1.coords t) 1 + 1 * j.val = j.val
    rw [off_eq]
    show 0 + 1 * j.val = j.val
    omega

/-! ## The arrays -/

/-- The scores of one half's embedding at row `r` against one half's readout. -/
def sc (c : Dev nD) (h h' : Fin 128 → Fin 256) (r : Fin 10000) : EReal :=
  Spec.score (fun l => eF V c r (h l)) (wF V c) (Spec.gate (fun j => ∑ k : Fin 10000, adjF V c r k * e8F V c k (h' j))) (bF V c)

/-- A score at the block's row is the score at the array's row. -/
theorem sc_blk (c : Dev nD) (t : Fin cfg1.N) (h h' : Fin 128 → Fin 256) (r : Fin 1000) :
    Spec.score (fun l => eBlk V c t (ix2 r (h l))) (fun l j => wBlk V c t (ix3 0 l j))
        (Spec.gate (fun j => ∑ k : Fin 10000, adjBlk V c t (ix2 r k) * e8Blk V c t (ix2 k (h' j)))) (bBlk V c t)
      = sc V c h h' (row t r) := by
  unfold sc
  simp only [eBlk_apply, wBlk_apply, adjBlk_apply, e8Blk_apply, bBlk_eq]

/-- A block of the first output. -/
def blk1 (c : Dev nD) (t : Fin cfg1.N) : Vec Ideal S1000x2 .f32 :=
  k1_pay1 (F := Ideal) (bBlk V c t) (k1_pay10 (adjBlk V c t) (e8Blk V c t) (wBlk V c t) (eBlk V c t))
    (k1_pay11 (adjBlk V c t) (e8Blk V c t) (wBlk V c t) (eBlk V c t))

/-- A block of the second output. -/
def blk2 (c : Dev nD) (t : Fin cfg1.N) : Vec Ideal S1000x2 .f32 :=
  k1_pay2 (F := Ideal) (bBlk V c t) (k1_pay5 (adjBlk V c t) (e8Blk V c t)) (k1_pay8 (wBlk V c t) (eBlk V c t)) (k1_pay9 (wBlk V c t) (eBlk V c t))

theorem outs_1 (c : Dev nD) (t : Fin cfg1.N) : (outsAt1 (Ix := Ix) (U := U) (Lvl := Lvl) 𝒱₀ V c t).1 = blk1 V c t := by
  unfold outsAt1
  frame_out
  unfold blk1 bBlk adjBlk e8Blk wBlk eBlk
  rfl

theorem outs_2 (c : Dev nD) (t : Fin cfg1.N) : (outsAt1 (Ix := Ix) (U := U) (Lvl := Lvl) 𝒱₀ V c t).2 = blk2 V c t := by
  unfold outsAt1
  frame_out
  unfold blk2 bBlk adjBlk e8Blk wBlk eBlk
  rfl

theorem col_cases (k : Fin 2) : k = 0 ∨ k = 1 := by omega

/-- The first output's block: the first embedding's score in column 0, the second's in column 1. -/
theorem blk1_apply (c : Dev nD) (t : Fin cfg1.N) (r : Fin 1000) (q : Fin 2) :
    blk1 V c t (ix2 r q) = if q.val = 0 then sc V c lo lo (row t r) else sc V c hi lo (row t r) := by
  rcases col_cases q with rfl | rfl
  · exact (out_lo_0 _ _ _ _ _ _).trans (sc_blk V c t lo lo r)
  · exact (out_lo_1 _ _ _ _ _ _).trans (sc_blk V c t hi lo r)

/-- The second output's block: the second embedding's score in column 0, the first's in column 1. -/
theorem blk2_apply (c : Dev nD) (t : Fin cfg1.N) (r : Fin 1000) (q : Fin 2) :
    blk2 V c t (ix2 r q) = if q.val = 0 then sc V c hi hi (row t r) else sc V c lo hi (row t r) := by
  rcases col_cases q with rfl | rfl
  · exact (out_hi_0 _ _ _ _ _ _).trans (sc_blk V c t hi hi r)
  · exact (out_hi_1 _ _ _ _ _ _).trans (sc_blk V c t lo hi r)

local notation "𝕕" => dat (Ix := Ix) (U := U) (Lvl := Lvl) 𝒱₀ V D

/-- The scores against the first readout. -/
theorem arr_5 (c : Dev nD) : (𝕕 c).arrAt 5 cfg1.N
    = fun i : S10000x2.Idx => if (i 1).val = 0 then sc V c lo lo (i 0) else sc V c hi lo (i 0) := by
  refine (𝕕 c).arrAt_eq_of_covers 5 _ (by decide +kernel) fun t hf y => ?_
  blk_simp
  rw [after1_5, outs_1]
  have h0 : (win1_5.blk t).view.emb y 0 = row t (y 0) := Fin.ext (by blk_simp [idx_5, row])
  have h1 : win1_5.index t 1 * 2 + (y 1).val = (y 1).val := by
    rw [idx_5]
    show 0 * 2 + (y 1).val = (y 1).val
    omega
  refine (congrArg _ (eq_ix2 y)).trans ((blk1_apply V c t (y 0) (y 1)).trans ?_)
  rw [h0]
  exact if_congr (by rw [h1]) rfl rfl

/-- The scores against the second readout. -/
theorem arr_6 (c : Dev nD) : (𝕕 c).arrAt 6 cfg1.N
    = fun i : S10000x2.Idx => if (i 1).val = 0 then sc V c hi hi (i 0) else sc V c lo hi (i 0) := by
  refine (𝕕 c).arrAt_eq_of_covers 6 _ (by decide +kernel) fun t hf y => ?_
  blk_simp
  rw [after1_6, outs_2]
  have h0 : (win1_6.blk t).view.emb y 0 = row t (y 0) := Fin.ext (by blk_simp [idx_6, row])
  have h1 : win1_6.index t 1 * 2 + (y 1).val = (y 1).val := by
    rw [idx_6]
    show 0 * 2 + (y 1).val = (y 1).val
    omega
  refine (congrArg _ (eq_ix2 y)).trans ((blk2_apply V c t (y 0) (y 1)).trans ?_)
  rw [h0]
  exact if_congr (by rw [h1]) rfl rfl

end Cert.KernelIdeal.Pass2
-- ==== Proof.KernelIdeal.Values.lean ====
/-
  What the two passes leave in the four results, in closed form of the arguments over the extended reals.
-/
module

public import proofs.«01_k».proof.Proof.KernelIdeal.Run
public import proofs.«01_k».proof.Proof.KernelIdeal.Arrays0
public import proofs.«01_k».proof.Proof.KernelIdeal.Arrays1

@[expose] public section

set_option maxRecDepth 16384

noncomputable section

namespace Cert.KernelIdeal.Values

open Cert.KernelIdeal Cert.KernelIdeal.Gen Cert.KernelIdeal.Pay Cert.KernelIdeal.Run
open Cert.KernelIdeal.Pass1 (at2 both both_lo both_hi)
open Idealize.ShloMosaic Idealize.ShloMosaic.TcCoe

variable (m : (ℓ : Loc nD τ sig) → Buf (Elt Ideal) ℓ) (c : Dev nD)

/-- The arguments as functions of row and column. -/
def feat : Fin 10000 → Fin 128 → EReal := at2 (m ((c : Thread nD τ).loc main_arg0))
def featA : Fin 10000 → Fin 128 → EReal := at2 (m ((c : Thread nD τ).loc main_arg1))
def adj : Fin 10000 → Fin 10000 → EReal := at2 (m ((c : Thread nD τ).loc main_arg2))
def wt : Fin 128 → Fin 128 → EReal := at2 (m ((c : Thread nD τ).loc main_arg3))
def form : Fin 128 → Fin 128 → EReal := fun l j => m ((c : Thread nD τ).loc main_arg5) (ix3 0 l j)
def bias : EReal := m ((c : Thread nD τ).loc main_arg6) (ix1 0)

/-- The embeddings of the features `f`. -/
def emb (f : Fin 10000 → Fin 128 → EReal) : Fin 10000 → Fin 128 → EReal := Spec.emb f (wt m c) (adj m c)

/-- The score of row `r` of the embeddings of `e` against the readout that the kernel makes of the features `f`. -/
def score (f e : Fin 10000 → Fin 128 → EReal) (r : Fin 10000) : EReal :=
  Spec.score (emb m c e r) (form m c) (Spec.gate (Spec.vsum (emb m c f) (adj m c) r)) (bias m c)

/-! ## The first pass's results -/

theorem z_eq : after1 m c main_v0_0 = fun i : S10000x128.Idx => Spec.hid (feat m c) (wt m c) (adj m c) (i 0) (i 1) := by
  rw [after1, put2, Function.update_of_ne (StableHlo.devRef_ne_of_ne (by decide)), Function.update_of_ne (StableHlo.devRef_ne_of_ne (by decide)), at_v0_0, dat0]
  exact Pass1.arr_4 _ _ c

theorem emb_eq : after1 m c main_v0_1 = fun i : S10000x128.Idx => emb m c (feat m c) (i 0) (i 1) := by
  rw [after1, put2, Function.update_of_ne (StableHlo.devRef_ne_of_ne (by decide)), Function.update_of_ne (StableHlo.devRef_ne_of_ne (by decide)), at_v0_1, dat0]
  exact Pass1.arr_5 _ _ c

/-! ## The arrays that pass between the regions -/

/-- The contents the second region reads. -/
abbrev mid (c : Dev nD) (b : Ref sig .tc) : Buf (Elt Ideal) ((c : Thread nD τ).loc b) := after0 m c (Proc.devRef .tc b)

theorem eF_eq (r : Fin 10000) (j : Fin 256) : Pass2.eF (mid m) c r j = both (feat m c) (featA m c) (wt m c) (adj m c) r j := by
  unfold Pass2.eF mid
  rw [at_v0_2, dat0]
  exact congrFun (Pass1.arr_6 _ _ c) (ix2 r j)

theorem e8F_eq (r : Fin 10000) (j : Fin 256) : Pass2.e8F (mid m) c r j = both (feat m c) (featA m c) (wt m c) (adj m c) r j := by
  unfold Pass2.e8F mid
  rw [at_v0_3, dat0]
  exact congrFun (Pass1.arr_7 _ _ c) (ix2 r j)

theorem adjF_eq (r k : Fin 10000) : Pass2.adjF (mid m) c r k = adj m c r k := by
  unfold Pass2.adjF mid
  rw [at_v0_4, dat0]
  exact congrFun (Pass1.arr_8 _ _ c) (ix2 r k)

theorem wF_eq : Pass2.wF (mid m) c = form m c := by
  funext l j
  unfold Pass2.wF mid
  rw [after0_of m c main_arg5 (by decide)]
  rfl

theorem bF_eq : Pass2.bF (mid m) c = bias m c := by
  unfold Pass2.bF mid
  rw [after0_of m c main_arg6 (by decide)]
  rfl

/-! ## The second pass's results -/

theorem sc_lo_lo (r : Fin 10000) : Pass2.sc (mid m) c lo lo r = score m c (feat m c) (feat m c) r := by
  unfold Pass2.sc
  simp only [eF_eq, e8F_eq, adjF_eq, wF_eq, bF_eq, both_lo]
  rfl

theorem sc_hi_lo (r : Fin 10000) : Pass2.sc (mid m) c hi lo r = score m c (feat m c) (featA m c) r := by
  unfold Pass2.sc
  simp only [eF_eq, e8F_eq, adjF_eq, wF_eq, bF_eq, both_lo, both_hi]
  rfl

theorem sc_hi_hi (r : Fin 10000) : Pass2.sc (mid m) c hi hi r = score m c (featA m c) (featA m c) r := by
  unfold Pass2.sc
  simp only [eF_eq, e8F_eq, adjF_eq, wF_eq, bF_eq, both_hi]
  rfl

theorem sc_lo_hi (r : Fin 10000) : Pass2.sc (mid m) c lo hi r = score m c (featA m c) (feat m c) r := by
  unfold Pass2.sc
  simp only [eF_eq, e8F_eq, adjF_eq, wF_eq, bF_eq, both_lo, both_hi]
  rfl

theorem ret_eq : after1 m c main_v1_0
    = fun i : S10000x2.Idx => if (i 1).val = 0 then score m c (feat m c) (feat m c) (i 0) else score m c (feat m c) (featA m c) (i 0) := by
  rw [at_v1_0, dat1]
  refine (Pass2.arr_5 𝒱₀ (mid m) _ c).trans ?_
  funext i
  exact if_congr Iff.rfl (sc_lo_lo m c _) (sc_hi_lo m c _)

theorem retA_eq : after1 m c main_v1_1
    = fun i : S10000x2.Idx => if (i 1).val = 0 then score m c (featA m c) (featA m c) (i 0) else score m c (featA m c) (feat m c) (i 0) := by
  rw [at_v1_1, dat1]
  refine (Pass2.arr_6 𝒱₀ (mid m) _ c).trans ?_
  funext i
  exact if_congr Iff.rfl (sc_hi_hi m c _) (sc_lo_hi m c _)

end Cert.KernelIdeal.Values
-- ==== Proof.RefValues.lean ====
/-
  The reference's results in closed form over the extended reals.
-/
module

public import proofs.«01_k».proof.Proof.Gen.ReferenceIdeal.Read
public import proofs.«01_k».proof.Proof.KernelIdeal.Arrays0
public import Idealize.ShloMosaic.Lib.Pointwise

@[expose] public section

set_option maxRecDepth 16384

noncomputable section

namespace Cert.RefValues

open Cert.ReferenceIdeal Cert.ReferenceIdeal.Gen Cert.ReferenceIdeal.Read
open Cert.KernelIdeal.Pass1 (at2)
open Idealize.ShloMosaic

variable (x0 x1 : Vec Ideal S10000x128 .f32) (x2 : Vec Ideal S10000x10000 .f32) (x3 : Vec Ideal S128x128 .f32)
  (x5 : Vec Ideal S1x128x128 .f32) (x6 : Vec Ideal S1 .f32)

/-- The reference's readout row of the features `f`. -/
def ref (f : Fin 10000 → Fin 128 → EReal) (w : Fin 128 → Fin 128 → EReal) (a : Fin 10000 → Fin 10000 → EReal) (r : Fin 10000) : Fin 128 → EReal :=
  Spec.mean (Spec.vsum (Spec.emb f w a) a r) (Spec.deg a r)

theorem v1_apply (r : Fin 10000) (j : Fin 128) :
    val_main_v1 (F := Ideal) x0 x2 x3 (ix2 r j) = Spec.hid (at2 x0) (at2 x3) (at2 x2) r j := by
  pointwise [val_main_v1, val_main_v0, Spec.hid, Spec.prod, at2]

theorem v4_apply (r : Fin 10000) (j : Fin 128) :
    val_main_v4 (F := Ideal) x0 x2 x3 (ix2 r j) = Spec.emb (at2 x0) (at2 x3) (at2 x2) r j := by
  pointwise [val_main_v4, val_main_call0_v0, val_main_call0_cst, val_main_v1, val_main_v0, Spec.emb, Spec.hid, Spec.prod, at2]

theorem v12_apply (r : Fin 10000) (j : Fin 128) :
    val_main_v12 (F := Ideal) x0 x2 x3 (ix2 r j) = ref (at2 x0) (at2 x3) (at2 x2) r j := by
  have h : val_main_v8 (F := Ideal) x0 x2 x3 (ix2 r j) = Spec.vsum (Spec.emb (at2 x0) (at2 x3) (at2 x2)) (at2 x2) r j := by
    pointwise [val_main_v8]
    simp only [v4_apply]
    rfl
  have h' : val_main_v11 (F := Ideal) x2 (ix2 r j) = Spec.deg (at2 x2) r := by
    pointwise [val_main_v11, val_main_v10, val_main_v9, val_main_cst, Spec.deg, at2]
  unfold ref Spec.mean
  rw [← h, ← h']
  rfl

theorem v26_apply (r : Fin 10000) (j : Fin 128) :
    val_main_v26 (F := Ideal) x0 x2 x3 (ix2 r j) = Spec.gate (ref (at2 x0) (at2 x3) (at2 x2) r) j := by
  pointwise [val_main_v26, val_main_v25, val_main_v24, val_main_v23, val_main_v22, val_main_v21, val_main_v20, val_main_v19, val_main_v18, val_main_v17,
    val_main_v16, val_main_v15, val_main_v14, val_main_v13, val_main_cst_0, val_main_cst_1, val_main_cst_2, val_main_cst_3]
  simp only [v12_apply]
  pointwise [Spec.gate, Spec.unit, Spec.norm, Spec.eps, Ideal.logistic]

/-- The second features pass through the same operations as the first. -/
theorem v7_eq : val_main_v7 (F := Ideal) x1 x2 x3 = val_main_v4 x1 x2 x3 := rfl

/-- The first scores: column 0 for the first features, column 1 for the second, both against the first features' readout. -/
theorem v62_apply (r : Fin 10000) (q : Fin 2) :
    val_main_v62 (F := Ideal) x0 x1 x2 x3 x5 x6 (ix2 r q)
      = Spec.score (if q.val = 0 then Spec.emb (at2 x0) (at2 x3) (at2 x2) r else Spec.emb (at2 x1) (at2 x3) (at2 x2) r)
          (fun l j => x5 (ix3 0 l j)) (Spec.gate (ref (at2 x0) (at2 x3) (at2 x2) r)) (x6 (ix1 0)) := by
  have hq : q = 0 ∨ q = 1 := by omega
  rcases hq with rfl | rfl
  · pointwise [val_main_v62, val_main_v53, val_main_v52, val_main_v51, val_main_v50, val_main_v49, val_main_cst_9, val_main_v48, val_main_v47, val_main_v46]
    simp only [v4_apply, v26_apply]
    rfl
  · pointwise [val_main_v62, val_main_v61, val_main_v60, val_main_v59, val_main_v58, val_main_v57, val_main_cst_10, val_main_v56, val_main_v55, val_main_v54]
    simp only [v7_eq, v4_apply, v26_apply]
    rfl

/-- The second scores are the first with the two features exchanged. -/
theorem v79_eq : val_main_v79 (F := Ideal) x0 x1 x2 x3 x5 x6 = val_main_v62 x1 x0 x2 x3 x5 x6 := rfl

end Cert.RefValues
-- ==== Proof.Mask.lean ====
/-
  What the mask says: at a row it selects of the last two results, the guard under the norm plays no part.
-/
module

public import proofs.«01_k».proof.Proof.Gen.On_rows_unclipped
public import proofs.«01_k».proof.Proof.KernelIdeal.Arrays0
public import Idealize.ShloMosaic.Lib.Pointwise

@[expose] public section

set_option maxRecDepth 16384

noncomputable section

namespace Cert.Mask

open Cert.On_rows_unclipped Cert.On_rows_unclipped.Gen
open Cert.KernelIdeal.Pass1 (at2)
open Idealize.ShloMosaic

variable (x0 x1 : Vec Ideal S10000x128 .f32) (x2 : Vec Ideal S10000x10000 .f32) (x3 x4 : Vec Ideal S128x128 .f32)
  (x5 : Vec Ideal S1x128x128 .f32) (x6 : Vec Ideal S1 .f32)

/-- The bits of the mask's test of a row's sum `s` and of the norms `n` of the neighbours' sum and `k` of their mean. -/
theorem bits {s n k e : EReal}
    (h : BitVec.ofBool (decide (0 < s)) &&& (BitVec.ofBool (decide (n = 0)) ||| (BitVec.ofBool (decide (e ≤ n)) &&& BitVec.ofBool (decide (e ≤ k)))) = 1#1) :
    0 < s ∧ (n = 0 ∨ (e ≤ n ∧ e ≤ k)) := by
  by_cases h1 : 0 < s <;> by_cases h2 : n = 0 <;> by_cases h3 : e ≤ n <;> by_cases h4 : e ≤ k <;> simp_all

theorem feat (r : Fin 10000) (q : Fin 2) (h : (fn (F := Ideal) x0 x1 x2 x3 x4 x5 x6).2.2.1 (ix2 r q) = 1#1) :
    Spec.unclipped (Spec.vsum (Spec.emb (at2 x0) (at2 x3) (at2 x2)) (at2 x2) r) (Spec.deg (at2 x2) r) := by
  refine bits ((Eq.symm ?_).trans h)
  unfold fn fn_part1 fn_part2 fn_part3
  pointwise [Spec.norm, Spec.mean, Spec.vsum, Spec.emb, Spec.hid, Spec.prod, Spec.deg, Spec.eps, at2, IntOp.andi, IntOp.ori]

theorem featA (r : Fin 10000) (q : Fin 2) (h : (fn (F := Ideal) x0 x1 x2 x3 x4 x5 x6).2.2.2 (ix2 r q) = 1#1) :
    Spec.unclipped (Spec.vsum (Spec.emb (at2 x1) (at2 x3) (at2 x2)) (at2 x2) r) (Spec.deg (at2 x2) r) := by
  refine bits ((Eq.symm ?_).trans h)
  unfold fn fn_part1 fn_part2 fn_part3
  pointwise [Spec.norm, Spec.mean, Spec.vsum, Spec.emb, Spec.hid, Spec.prod, Spec.deg, Spec.eps, at2, IntOp.andi, IntOp.ori]

end Cert.Mask
-- ==== Proof.Scale.lean ====
/-
  Dividing a vector by a positive number before it is normalised does not change the normalised
  vector, on the rows where the guard under the norm plays no part.
-/
module

public import proofs.«01_k».proof.Proof.Spec
public import Idealize.ShloMosaic.Lib.IdealHost
public import Mathlib.Data.EReal.Inv

@[expose] public section

namespace Cert.Spec
open Idealize.ShloMosaic

theorem eps_pos : 0 < eps := by
  unfold eps
  have h : Ideal.ofBits .f32 0x2B8CBCCC#32 = (((9223372 : ℝ) / 2 ^ 63 : ℝ) : EReal) := by
    simp [Ideal.ofBits, Ideal.ieee, -EReal.coe_mul]; norm_num
  rw [h]
  exact EReal.coe_pos.mpr (by norm_num)

theorem sq_nonneg' (x : EReal) : 0 ≤ x * x := by
  rcases le_total 0 x with h | h
  · exact mul_nonneg h h
  · have := EReal.mul_nonneg_iff.mpr (Or.inr ⟨h, h⟩)
    exact this

theorem sumSq_nonneg (v : Fin 128 → EReal) : 0 ≤ ∑ j, v j * v j :=
  Finset.sum_nonneg fun j _ => sq_nonneg' (v j)

/-- A vector of norm zero is zero. -/
theorem eq_zero_of_norm (v : Fin 128 → EReal) (h : norm v = 0) (j : Fin 128) : v j = 0 := by
  have hs : ∑ j, v j * v j = 0 := by
    have h0 := sumSq_nonneg v
    unfold norm at h
    generalize (∑ j, v j * v j) = s at h h0
    induction s with
    | bot => simp at h0
    | top => exact absurd h (by show (⊤ : EReal) ≠ 0; simp)
    | coe r =>
      have hr : 0 ≤ r := by exact_mod_cast h0
      rw [show Ideal.sqrt r = (Real.sqrt r : EReal) from if_neg (not_lt.mpr hr)] at h
      have : Real.sqrt r = 0 := by exact_mod_cast h
      have := (Real.sqrt_eq_zero hr).mp this
      simp [this]
  have hj := (Finset.sum_eq_zero_iff_of_nonneg fun j _ => sq_nonneg' (v j)).mp hs j (Finset.mem_univ j)
  rcases mul_eq_zero.mp hj with h | h <;> exact h

theorem norm_zero : norm (fun _ => 0) = 0 := by
  have h : (∑ _j : Fin 128, (0 : EReal) * 0) = ((0 : ℝ) : EReal) := by simp
  unfold norm
  rw [h, show Ideal.sqrt ((0 : ℝ) : EReal) = (Real.sqrt 0 : EReal) from if_neg (lt_irrefl _), Real.sqrt_zero, EReal.coe_zero]

/-- Division by a positive real is multiplication by its inverse. -/
theorem mean_coe (v : Fin 128 → EReal) (r : ℝ) (hr : 0 < r) (j : Fin 128) : mean v r j = v j * ((r⁻¹ : ℝ) : EReal) := by
  unfold mean Ideal.div
  rw [if_neg (by exact_mod_cast hr.ne'), EReal.coe_inv]

theorem sqrt_top : Ideal.sqrt ⊤ = ⊤ := rfl

theorem sqrt_coe (r : ℝ) (hr : 0 ≤ r) : Ideal.sqrt r = (Real.sqrt r : EReal) := if_neg (not_lt.mpr hr)

/-- The norm of a vector times a positive real. -/
theorem norm_mul (v : Fin 128 → EReal) (c : ℝ) (hc : 0 < c) : norm (fun j => v j * (c : EReal)) = norm v * (c : EReal) := by
  have hs : ∑ j, v j * (c : EReal) * (v j * (c : EReal)) = (∑ j, v j * v j) * ((c * c : ℝ) : EReal) := by
    have hd : ∀ s : Finset (Fin 128), (∑ j ∈ s, v j * v j) * ((c * c : ℝ) : EReal) = ∑ j ∈ s, v j * v j * ((c * c : ℝ) : EReal) := by
      intro s
      induction s using Finset.cons_induction with
      | empty => simp
      | cons a s ha ih =>
        rw [Finset.sum_cons, Finset.sum_cons, EReal.right_distrib_of_nonneg (sq_nonneg' _) (Finset.sum_nonneg fun j _ => sq_nonneg' (v j)), ih]
    rw [hd]
    exact Finset.sum_congr rfl fun j _ => by rw [EReal.coe_mul]; ac_rfl
  unfold norm
  rw [hs]
  have h0 := sumSq_nonneg v
  generalize (∑ j, v j * v j) = s at h0
  induction s with
  | bot => simp at h0
  | top => rw [EReal.top_mul_coe_of_pos (mul_pos hc hc)]; rw [sqrt_top, EReal.top_mul_coe_of_pos hc]
  | coe r =>
    have hr : 0 ≤ r := by exact_mod_cast h0
    rw [← EReal.coe_mul]
    have hrc : 0 ≤ r * (c * c) := mul_nonneg hr (mul_pos hc hc).le
    rw [sqrt_coe _ hr, sqrt_coe _ hrc, ← EReal.coe_mul, Real.sqrt_mul hr, Real.sqrt_mul_self hc.le]

/-- On the rows where the guard plays no part the mean and the sum have the same unit vector. -/
theorem unit_mean (v : Fin 128 → EReal) (s : EReal) (h : unclipped v s) (j : Fin 128) : unit (mean v s) j = unit v j := by
  obtain ⟨hs, h0 | ⟨hn, hm⟩⟩ := h
  · have hv : v = fun _ => 0 := funext (eq_zero_of_norm v h0)
    have hx : mean v s = fun _ => 0 := by
      funext k; unfold mean Ideal.div; rw [if_neg hs.ne', hv, zero_mul]
    rw [hx, hv]
  · induction s with
    | bot => simp at hs
    | top =>
      exfalso
      have hx : mean v ⊤ = fun _ => 0 := by
        funext k; unfold mean Ideal.div; rw [if_neg (by simp), EReal.inv_top, mul_zero]
      rw [hx, norm_zero] at hm
      exact absurd hm (not_le.mpr eps_pos)
    | coe r =>
      have hr : 0 < r := by exact_mod_cast hs
      have hc : 0 < r⁻¹ := inv_pos.mpr hr
      have hx : mean v r = fun k => v k * ((r⁻¹ : ℝ) : EReal) := funext (mean_coe v r hr)
      rw [hx] at hm ⊢
      unfold unit
      rw [max_eq_left hm, max_eq_left hn, norm_mul v _ hc]
      have hpos := lt_of_lt_of_le eps_pos hn
      generalize norm v = n at hpos
      induction n with
      | bot => simp at hpos
      | top =>
        rw [EReal.top_mul_coe_of_pos hc]
        unfold Ideal.div
        rw [if_neg (by simp), if_neg (by simp), EReal.inv_top, mul_zero, mul_zero]
      | coe m =>
        have hm : 0 < m := by exact_mod_cast hpos
        rw [← EReal.coe_mul]
        unfold Ideal.div
        rw [if_neg (by exact_mod_cast (mul_pos hm hc).ne'), if_neg (by exact_mod_cast hm.ne'), mul_assoc, ← EReal.coe_inv, ← EReal.coe_mul, ← EReal.coe_inv]
        congr 2
        field_simp

/-- So they have the same readout. -/
theorem gate_mean (v : Fin 128 → EReal) (s : EReal) (h : unclipped v s) : gate (mean v s) = gate v :=
  funext fun j => by unfold gate; rw [unit_mean v s h]

end Cert.Spec
-- ==== Proof.lean ====
/-
  The proof of the claim: the kernel's run (Run.lean) read at the arguments and at the four results, the results in closed
  form (KernelIdeal/Values.lean), the reference's results in closed form (RefValues.lean), and the fact that joins them
  at the rows the mask selects (Mask.lean, Scale.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_rows_unclipped
public import proofs.«01_k».proof.Proof.Gen.Own.Kernel.K1.Frame
public import proofs.«01_k».proof.Proof.Gen.Own.Kernel.RegionsD
public import proofs.«01_k».proof.Proof.Gen.Own.KernelIdeal.K1.Frame
public import proofs.«01_k».proof.Proof.Gen.Own.KernelIdeal.RegionsD
public import proofs.«01_k».proof.Proof.Kernel.Run
public import proofs.«01_k».proof.Proof.KernelIdeal.Values
public import proofs.«01_k».proof.Proof.RefValues
public import proofs.«01_k».proof.Proof.Mask
public import proofs.«01_k».proof.Proof.Scale
public import Idealize.ShloMosaic.Adequacy
public import Idealize.ShloMosaic.Init

@[expose] public section

noncomputable section

namespace Cert.Proof

open Idealize.ShloMosaic Idealize.ShloMosaic.TcCoe Idealize.SL.Sem

/-! ## The frames -/

section

open Cert.Kernel

theorem frame_p : Cert.quiescent_Kernel := by
  intro m ρ _
  refine (θ_run defs _ _).mono (fun r h => ⟨fun c => ?_, h.2⟩) (Cert.Kernel.Run.run (F := Bits) m ρ)
  have k (b : Ref sig .tc) (hb : Proc.devRef .tc b ∈ Pipeline.ucRefs τ sig) (h1) (h2) :
      r.2.mem ((c.tc : Thread nD τ).loc b) = m ((c.tc : Thread nD τ).loc b) := (h.1 c _ hb).trans (Cert.Kernel.Run.kept m c b h1 h2)
  have u (b : Ref sig .tc) : Proc.devRef .tc b ∈ StableHlo.tcRefs τ sig := StableHlo.devRef_mem_tcRefs b
  exact ⟨k main_arg0 (Finset.mem_filter.mpr ⟨u _, by decide⟩) (by decide) (by decide), k main_arg1 (Finset.mem_filter.mpr ⟨u _, by decide⟩) (by decide) (by decide),
    k main_arg2 (Finset.mem_filter.mpr ⟨u _, by decide⟩) (by decide) (by decide), k main_arg3 (Finset.mem_filter.mpr ⟨u _, by decide⟩) (by decide) (by decide),
    k main_arg4 (Finset.mem_filter.mpr ⟨u _, by decide⟩) (by decide) (by decide), k main_arg5 (Finset.mem_filter.mpr ⟨u _, by decide⟩) (by decide) (by decide),
    k main_arg6 (Finset.mem_filter.mpr ⟨u _, by decide⟩) (by decide) (by decide)⟩

end

section

open Cert.KernelIdeal

/-- The arguments after the idealized kernel's run. -/
theorem args (m : (ℓ : Loc nD τ sig) → Buf (Elt Ideal) ℓ) (c : Dev nD) (μ : (ℓ : Loc nD τ sig) → Buf (Elt Ideal) ℓ)
    (h : ∀ b ∈ Pipeline.ucRefs τ sig, μ (((c : Thread nD τ).1, b) : Loc nD τ sig) = Cert.KernelIdeal.Run.after1 m c b) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6) := by
  have k (b : Ref sig .tc) (hb : Proc.devRef .tc b ∈ Pipeline.ucRefs τ sig) (h1) (h2) :
      μ ((c.tc : Thread nD τ).loc b) = m ((c.tc : Thread nD τ).loc b) := (h _ hb).trans (Cert.KernelIdeal.Run.kept m c b h1 h2)
  have u (b : Ref sig .tc) : Proc.devRef .tc b ∈ StableHlo.tcRefs τ sig := StableHlo.devRef_mem_tcRefs b
  exact ⟨k main_arg0 (Finset.mem_filter.mpr ⟨u _, by decide⟩) (by decide) (by decide), k main_arg1 (Finset.mem_filter.mpr ⟨u _, by decide⟩) (by decide) (by decide),
    k main_arg2 (Finset.mem_filter.mpr ⟨u _, by decide⟩) (by decide) (by decide), k main_arg3 (Finset.mem_filter.mpr ⟨u _, by decide⟩) (by decide) (by decide),
    k main_arg4 (Finset.mem_filter.mpr ⟨u _, by decide⟩) (by decide) (by decide), k main_arg5 (Finset.mem_filter.mpr ⟨u _, by decide⟩) (by decide) (by decide),
    k main_arg6 (Finset.mem_filter.mpr ⟨u _, by decide⟩) (by decide) (by decide)⟩

theorem frame_pi : Cert.quiescent_KernelIdeal := by
  intro m ρ _
  exact (θ_run defs _ _).mono (fun r h => ⟨fun c => args m c r.2.mem (h.1 c), h.2⟩) (Cert.KernelIdeal.Run.run (F := Ideal) m ρ)

end

/-- The reference declares no semaphore. -/
theorem frame_ri : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

/-! ## The results -/

open Cert.KernelIdeal.Values

section

open Cert.KernelIdeal

variable (m : (ℓ : Loc nD τ sig) → Buf (Elt Ideal) ℓ) (c : Dev nD)

/-- At a row where the guard plays no part, the kernel's score against the readout of the neighbours' sum is the
    reference's against the readout of their mean. -/
theorem score_eq (f e : Fin 10000 → Fin 128 → EReal) (r : Fin 10000)
    (h : Spec.unclipped (Spec.vsum (emb m c f) (adj m c) r) (Spec.deg (adj m c) r)) :
    Spec.score (emb m c e r) (form m c) (Spec.gate (RefValues.ref f (wt m c) (adj m c) r)) (bias m c) = score m c f e r := by
  unfold score RefValues.ref
  exact congrArg (fun g => Spec.score (emb m c e r) (form m c) g (bias m c)) (Spec.gate_mean _ _ h)

/-- The same for the two columns of a result. -/
theorem cols_eq (f e e' : Fin 10000 → Fin 128 → EReal) (r : Fin 10000) (q : Fin 2)
    (h : Spec.unclipped (Spec.vsum (emb m c f) (adj m c) r) (Spec.deg (adj m c) r)) :
    Spec.score (if q.val = 0 then emb m c e r else emb m c e' r) (form m c) (Spec.gate (RefValues.ref f (wt m c) (adj m c) r)) (bias m c)
      = if q.val = 0 then score m c f e r else score m c f e' r := by
  split
  · exact score_eq m c f e r h
  · exact score_eq m c f e' r h

end

theorem algebraic : Cert.algebraic_KernelIdeal_ReferenceIdeal_on_rows_unclipped := by
  intro m ρ m' ρ' _ hag
  refine ⟨fun c => Cert.KernelIdeal.Run.after1 m c Cert.KernelIdeal.main_v0_0, fun c => Cert.KernelIdeal.Run.after1 m c Cert.KernelIdeal.main_v0_1,
    fun c => Cert.KernelIdeal.Run.after1 m c Cert.KernelIdeal.main_v1_0, fun c => Cert.KernelIdeal.Run.after1 m c Cert.KernelIdeal.main_v1_1, ?_, ?_⟩
  · refine (θ_run Cert.KernelIdeal.defs _ _).mono (fun r h c => ?_) (Cert.KernelIdeal.Run.run (F := Ideal) m ρ)
    have u (b : Ref Cert.KernelIdeal.sig .tc) : Proc.devRef .tc b ∈ StableHlo.tcRefs Cert.KernelIdeal.τ Cert.KernelIdeal.sig := StableHlo.devRef_mem_tcRefs b
    exact ⟨fun i _ => congrFun (h.1 c _ (Finset.mem_filter.mpr ⟨u Cert.KernelIdeal.main_v0_0, by decide⟩)) i,
      fun i _ => congrFun (h.1 c _ (Finset.mem_filter.mpr ⟨u Cert.KernelIdeal.main_v0_1, by decide⟩)) i,
      fun i _ => congrFun (h.1 c _ (Finset.mem_filter.mpr ⟨u Cert.KernelIdeal.main_v1_0, by decide⟩)) i,
      fun i _ => congrFun (h.1 c _ (Finset.mem_filter.mpr ⟨u Cert.KernelIdeal.main_v1_1, by decide⟩)) i, args m c r.2.mem (h.1 c)⟩
  · refine (θ_run Cert.ReferenceIdeal.defs _ _).mono (fun r h c => ?_) (Cert.ReferenceIdeal.Value.run (F := Ideal) m' ρ')
    obtain ⟨a0, a1, a2, a3, a4, a5, a6⟩ := hag c
    obtain ⟨h0, h1, h2, h3, hargs⟩ := h c
    rw [Cert.ReferenceIdeal.Read.val_main_v1_eq, a0, a2, a3] at h0
    rw [Cert.ReferenceIdeal.Read.val_main_v4_eq, a0, a2, a3] at h1
    rw [Cert.ReferenceIdeal.Read.val_main_v62_eq, a0, a1, a2, a3, a5, a6] at h2
    rw [Cert.ReferenceIdeal.Read.val_main_v79_eq, a0, a1, a2, a3, a5, a6] at h3
    refine ⟨fun i hi => ?_, fun i hi => ?_, fun i hi => ?_, fun i hi => ?_, hargs⟩
    · exact (congrFun h0 i).trans ((congrArg _ (eq_ix2 i)).trans ((RefValues.v1_apply _ _ _ (i 0) (i 1)).trans (congrFun (z_eq m c) i).symm))
    · exact (congrFun h1 i).trans ((congrArg _ (eq_ix2 i)).trans ((RefValues.v4_apply _ _ _ (i 0) (i 1)).trans (congrFun (emb_eq m c) i).symm))
    · have hm := Mask.feat _ _ _ _ _ _ _ (i 0) (i 1) ((congrArg _ (eq_ix2 i)).symm.trans hi)
      exact (congrFun h2 i).trans ((congrArg _ (eq_ix2 i)).trans ((RefValues.v62_apply _ _ _ _ _ _ (i 0) (i 1)).trans
        ((cols_eq m c (feat m c) (feat m c) (featA m c) (i 0) (i 1) hm).trans (congrFun (ret_eq m c) i).symm)))
    · have hm := Mask.featA _ _ _ _ _ _ _ (i 0) (i 1) ((congrArg _ (eq_ix2 i)).symm.trans hi)
      rw [RefValues.v79_eq] at h3
      exact (congrFun h3 i).trans ((congrArg _ (eq_ix2 i)).trans ((RefValues.v62_apply _ _ _ _ _ _ (i 0) (i 1)).trans
        ((cols_eq m c (featA m c) (featA m c) (feat m c) (i 0) (i 1) hm).trans (congrFun (retA_eq m c) i).symm)))

theorem claim : Cert.Claim := ⟨Cert.Kernel.Gen.facts, Cert.KernelIdeal.Gen.facts, Cert.ReferenceIdeal.Gen.facts, Cert.On_rows_unclipped.Gen.facts,
  frame_p, frame_pi, frame_ri, trivial, algebraic⟩

end Cert.Proof

end
